-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![16384, 1024]⟩ ⟨2, ![65536, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S65536x1024 : Shape := ⟨2, ![65536, 1024]⟩
abbrev S3x16384x1024 : Shape := ⟨3, ![3, 16384, 1024]⟩
abbrev S3x1024x1024 : Shape := ⟨3, ![3, 1024, 1024]⟩
abbrev S2x1024x1024 : Shape := ⟨3, ![2, 1024, 1024]⟩
abbrev S3 : Shape := ⟨1, ![3]⟩
abbrev S2 : Shape := ⟨1, ![2]⟩
abbrev S12 : Shape := ⟨1, ![12]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x4096x1024 : Shape := ⟨3, ![1, 4096, 1024]⟩
abbrev S4096x1024 : Shape := ⟨2, ![4096, 1024]⟩

abbrev nBuf : Space → Nat
  | .hbm => 3
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S65536x1024, .f32⟩
  | .hbm, ⟨2, _⟩ => ⟨S3x16384x1024, .bf16⟩
  | .local _ .vmem, ⟨0, _⟩ => ⟨S16384x1024, .bf16⟩
  | .local _ .vmem, ⟨1, _⟩ => ⟨S3x1024x1024, .f32⟩
  | .local _ .vmem, ⟨2, _⟩ => ⟨S2x1024x1024, .bf16⟩
  | .local _ .vmem, ⟨3, _⟩ => ⟨S2x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_91 : BitVec 32 := 1#32
  let v104 : BitVec 32 := Scalar.muli v24 c1_i32_91
  let v105 : BitVec 32 := Scalar.addi c0_i32_92 v104
  v105.toNat
def k0_dev4 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_100 : BitVec 32 := 1#32
  let v113 : BitVec 32 := Scalar.muli v13 c1_i32_100
  let v114 : BitVec 32 := Scalar.addi c0_i32_101 v113
  v114.toNat
def k0_dev5 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_169 : BitVec 32 := 1#32
  let v186 : BitVec 32 := Scalar.muli v24 c1_i32_169
  let v187 : BitVec 32 := Scalar.addi c0_i32_170 v186
  v187.toNat
def k0_dev6 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_177 : BitVec 32 := 1#32
  let v195 : BitVec 32 := Scalar.muli v13 c1_i32_177
  let v196 : BitVec 32 := Scalar.addi c0_i32_178 v195
  v196.toNat
def k0_dev7 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_246 : BitVec 32 := 1#32
  let v268 : BitVec 32 := Scalar.muli v24 c1_i32_246
  let v269 : BitVec 32 := Scalar.addi c0_i32_247 v268
  v269.toNat
def k0_dev8 (d0 : Dev nD) : Nat :=
  let c0_i32_255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_254 : BitVec 32 := 1#32
  let v277 : BitVec 32 := Scalar.muli v13 c1_i32_254
  let v278 : BitVec 32 := Scalar.addi c0_i32_255 v277
  v278.toNat
def k0_dev9 (d0 : Dev nD) : Nat :=
  let c0_i32_313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_312 : BitVec 32 := 1#32
  let v340 : BitVec 32 := Scalar.muli v24 c1_i32_312
  let v341 : BitVec 32 := Scalar.addi c0_i32_313 v340
  v341.toNat
def k0_dev10 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_320 : BitVec 32 := 1#32
  let v349 : BitVec 32 := Scalar.muli v13 c1_i32_320
  let v350 : BitVec 32 := Scalar.addi c0_i32_321 v349
  v350.toNat
def k0_off1 (d0 : Dev nD) (c0_i32_331 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v358 : BitVec 32 := Scalar.muli v2 c16384_i32
  let v364 : BitVec 32 := Scalar.addi v358 c0_i32_331
  let c0_i32_334 : BitVec 32 := 0#32
  ![v364.toNat, 0]
def k0_dev11 (d0 : Dev nD) : Nat :=
  let c0_i32_611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_610 : BitVec 32 := 1#32
  let v638 : BitVec 32 := Scalar.muli v24 c1_i32_610
  let v639 : BitVec 32 := Scalar.addi c0_i32_611 v638
  v639.toNat
def k0_dev12 (d0 : Dev nD) : Nat :=
  let c0_i32_629 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_628 : BitVec 32 := 1#32
  let v655 : BitVec 32 := Scalar.muli v24 c1_i32_628
  let v656 : BitVec 32 := Scalar.addi c0_i32_629 v655
  v656.toNat
def k0_off2 (d0 : Dev nD) (c0_i32_662 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c16384_i32_634 : BitVec 32 := 16384#32
  let v665 : BitVec 32 := Scalar.muli v13 c16384_i32_634
  let v690 : BitVec 32 := Scalar.addi v665 c0_i32_662
  let c0_i32_665 : BitVec 32 := 0#32
  ![v690.toNat, 0]
def k0_off3 (d0 : Dev nD) (c1_i32_6 : BitVec 32) (c0_i32_937 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c16384_i32_909 : BitVec 32 := 16384#32
  let v920 : BitVec 32 := Scalar.muli v24 c16384_i32_909
  let v945 : BitVec 32 := Scalar.addi v920 c0_i32_937
  let c0_i32_940 : BitVec 32 := 0#32
  ![v945.toNat, 0]
def k0_dev13 (d0 : Dev nD) : Nat :=
  let c0_i32_1179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1178 : BitVec 32 := 1#32
  let v1168 : BitVec 32 := Scalar.muli v13 c1_i32_1178
  let v1169 : BitVec 32 := Scalar.addi c0_i32_1179 v1168
  v1169.toNat
def k0_dev14 (d0 : Dev nD) : Nat :=
  let c0_i32_1197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1196 : BitVec 32 := 1#32
  let v1185 : BitVec 32 := Scalar.muli v13 c1_i32_1196
  let v1186 : BitVec 32 := Scalar.addi c0_i32_1197 v1185
  v1186.toNat
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Steps.lean ====
/- The kernel's body as loops over blocks: one definition per kind of step, at a symbolic block and staging slot,
   and the theorem that the printed body, run on the buffers the launch hands it, is the loops' unrolling. -/
module

public import proofs.«01_k».proof.Proof.Gen.KernelIdeal
public import proofs.«01_k».proof.Proof.Gen.KernelIdeal.Points
public import Idealize.ShloMosaic.Lib.Pipeline.Regions

@[expose] public section

noncomputable section

namespace Cert.KernelIdeal.Ring

open Idealize.ShloMosaic Idealize.ShloMosaic.TcCoe Idealize.SL.Sem Cert.KernelIdeal Cert.KernelIdeal.Gen

variable {F : FTy → Type} [FloatOps F]

variable (F) in
/-- The programs the body is made of. -/
abbrev Pg : Type 1 := Prog (TpuEff nD τ sig (Elt F) Λ₀ .tc) PUnit

/-! ## The buffers' pieces -/

/-- The argument, the result, the landing buffer, the device's own rows as bf16, and the three staging buffers. -/
abbrev xM : Memref sig .tc .hbm S16384x1024 .f32 := Memref.whole main_arg0
abbrev oM : Memref sig .tc .hbm S65536x1024 .f32 := Memref.whole main_v1_0
abbrev rM : Memref sig .tc .hbm S3x16384x1024 .bf16 := Memref.whole main_v1_1
abbrev gM : Memref sig .tc .vmem S16384x1024 .bf16 := Memref.whole cc0_scratch0
abbrev xsM : Memref sig .tc .vmem S3x1024x1024 .f32 := Memref.whole cc0_scratch1
abbrev csM : Memref sig .tc .vmem S2x1024x1024 .bf16 := Memref.whole cc0_scratch2
abbrev osM : Memref sig .tc .vmem S2x1024x1024 .f32 := Memref.whole cc0_scratch3

/-- `n` rows of a matrix of `N` rows from row `o`, -/
theorem inb2 {N n o : ℕ} (h : o + n ≤ N) :
    ∀ a, (![o, 0] : Fin 2 → ℕ) a + (![n, 1024] : Fin 2 → ℕ) a ≤ (![N, 1024] : Fin 2 → ℕ) a := by
  intro a; fin_cases a
  · exact h
  · exact Nat.le_refl _
/-- and of member `s` of a stack of `S` such matrices, lie inside. -/
theorem inb3 {S N n s o : ℕ} (hs : s < S) (h : o + n ≤ N) :
    ∀ a, (![s, o, 0] : Fin 3 → ℕ) a + (![1, n, 1024] : Fin 3 → ℕ) a ≤ (![S, N, 1024] : Fin 3 → ℕ) a := by
  intro a; fin_cases a
  · exact hs
  · exact h
  · exact Nat.le_refl _

theorem blk_le (b : Fin 16) : 1024 * b.val + 1024 ≤ 16384 := by omega
theorem qtr_le (k : Fin 4) : 4096 * k.val + 4096 ≤ 16384 := by omega

/-- Block `b` of 1024 rows of the argument, as the machine's rectangle and memref; -/
def xR (b : Fin 16) : Rect S16384x1024 := Rect.unit (s := S16384x1024) ![1024 * b.val, 0] S1024x1024.size (inb2 (blk_le b))
def xBlk (b : Fin 16) : Memref sig .tc .hbm S1024x1024 .f32 := xM.slice (xR b) (fun _ => rfl)
/-- the same block of the device's own rows as bf16 is `xR b` of `gM`; quarter `k` of those rows; -/
def gQtr (k : Fin 4) : Memref sig .tc .vmem S4096x1024 .bf16 :=
  gM.slice (Rect.unit (s := S16384x1024) ![4096 * k.val, 0] S4096x1024.size (inb2 (qtr_le k))) (fun _ => rfl)
/-- slot `s` of each staging buffer, as a rectangle and as a squeezed memref; -/
def xsR (s : Fin 3) : Rect S3x1024x1024 := Rect.unit (s := S3x1024x1024) ![s.val, 0, 0] S1x1024x1024.size (inb3 s.isLt (Nat.le_refl _))
def stR (s : Fin 2) : Rect S2x1024x1024 := Rect.unit (s := S2x1024x1024) ![s.val, 0, 0] S1x1024x1024.size (inb3 s.isLt (Nat.le_refl _))
def xsSlot (s : Fin 3) : Memref sig .tc .vmem S1024x1024 .f32 := (xsM.slice (xsR s) (fun _ => rfl)).squeeze S1024x1024 squeezes_S1x1024x1024_S1024x1024
def csSlot (s : Fin 2) : Memref sig .tc .vmem S1024x1024 .bf16 := (csM.slice (stR s) (fun _ => rfl)).squeeze S1024x1024 squeezes_S1x1024x1024_S1024x1024
def osSlot (s : Fin 2) : Memref sig .tc .vmem S1024x1024 .f32 := (osM.slice (stR s) (fun _ => rfl)).squeeze S1024x1024 squeezes_S1x1024x1024_S1024x1024
/-- block `b`, and quarter `k`, of slot `t` of the landing buffer; -/
def rBlk (t : Fin 3) (b : Fin 16) : Memref sig .tc .hbm S1024x1024 .bf16 :=
  (rM.slice (Rect.unit (s := S3x16384x1024) ![t.val, 1024 * b.val, 0] S1x1024x1024.size (inb3 t.isLt (blk_le b))) (fun _ => rfl)).squeeze S1024x1024 squeezes_S1x1024x1024_S1024x1024
def rQtr (t : Fin 3) (k : Fin 4) : Memref sig .tc .hbm S4096x1024 .bf16 :=
  (rM.slice (Rect.unit (s := S3x16384x1024) ![t.val, 4096 * k.val, 0] S1x4096x1024.size (inb3 t.isLt (qtr_le k))) (fun _ => rfl)).squeeze S4096x1024 squeezes_S1x4096x1024_S4096x1024

/-- Where a block of the result goes: the device's own rows, or slot 0's, 1's, 2's sender's. -/
inductive Src where
  | own | left | right | opp
  deriving DecidableEq

/-- The row the printed offset chain computes for it on device `d`, -/
def oOff (w : Src) (d : Dev nD) (b : Fin 16) : Fin 2 → ℕ := match w with
  | .own => k0_off1 d (BitVec.ofNat 32 (1024 * b.val))
  | .left => k0_off2 d (BitVec.ofNat 32 (1024 * b.val))
  | .right => k0_off3 d 1#32 (BitVec.ofNat 32 (1024 * b.val))
  | .opp => k0_off3 d 2#32 (BitVec.ofNat 32 (1024 * b.val))
/-- A block of the result lies inside it. -/
theorem oOff_inb (w : Src) (d : Dev nD) (b : Fin 16) : ∀ a, oOff w d b a + S1024x1024.size a ≤ S65536x1024.size a := match w with
  | .own => k0_off1_inb d b
  | .left => k0_off2_inb d b
  | .right => k0_off3_inb d 0 b
  | .opp => k0_off3_inb d 1 b
/-- and the block of the result there. -/
def oBlk (w : Src) (d : Dev nD) (b : Fin 16) : Memref sig .tc .hbm S1024x1024 .f32 :=
  oM.slice (Rect.unit (s := S65536x1024) (oOff w d b) S1024x1024.size (oOff_inb w d b)) (fun _ => rfl)

/-! ## The semaphores -/

def xinSem (s : Fin 3) : DmaSem sig := ⟨s.val, by show s.val < 34; omega⟩
def cinSem (s : Fin 2) : DmaSem sig := ⟨6 + s.val, by show 6 + s.val < 34; omega⟩
def outSem (s : Fin 2) : DmaSem sig := ⟨8 + s.val, by show 8 + s.val < 34; omega⟩
def sendSem (j : Fin 12) : DmaSem sig := ⟨10 + j.val, by show 10 + j.val < 34; omega⟩
def recvSem (j : Fin 12) : DmaSem sig := ⟨22 + j.val, by show 22 + j.val < 34; omega⟩
def barSem : Sem sig := (SemArray.scalar (sig.barrier 0 rfl) : Sems sig S_).sem

/-- The neighbours a body names: left is one back on the ring, right is one on. -/
def leftDev (d : Dev nD) : Dev nD := ⟨k0_dev1 d, k0_dev1_lt d⟩
def rightDev (d : Dev nD) : Dev nD := ⟨k0_dev2 d, k0_dev2_lt d⟩

/-! ## Evidence at a symbolic piece -/

theorem wx_g (k : Fin 4) : (gQtr k).view.WordExact :=
  View.wordExact_slice_whole cc0_scratch0 rfl _ (Nat.le_refl 2) rfl
    (by show 2 ∣ 4096 * k.val; exact ⟨2048 * k.val, by omega⟩) (by show 2 ∣ 4096; decide)
/-- Every transfer moves whole words: a quarter of a landing slot, a block of it, the staging slots, a block of the argument and of the result. -/
theorem wx_rq (t : Fin 3) (k : Fin 4) : (rQtr t k).view.WordExact :=
  View.WordExact.reshape (View.wordExact_slice_whole main_v1_1 rfl _ (by decide) rfl
    (by show 2 ∣ 4096 * k.val; exact ⟨2048 * k.val, by omega⟩) (by show 2 ∣ 4096; decide)) _ _
theorem wx_rb (t : Fin 3) (b : Fin 16) : (rBlk t b).view.WordExact :=
  View.WordExact.reshape (View.wordExact_slice_whole main_v1_1 rfl _ (by decide) rfl
    (by show 2 ∣ 1024 * b.val; exact ⟨512 * b.val, by omega⟩) (by show 2 ∣ 1024; decide)) _ _
theorem wx_cs (s : Fin 2) : (csSlot s).view.WordExact :=
  View.WordExact.reshape (View.wordExact_slice_whole cc0_scratch2 rfl _ (by decide) rfl
    (by show 2 ∣ 0; decide) (by show 2 ∣ 1024; decide)) _ _
theorem wx_x (b : Fin 16) : (xBlk b).view.WordExact := View.wordExact_bits rfl
theorem wx_xs (s : Fin 3) : (xsSlot s).view.WordExact := View.WordExact.reshape (View.wordExact_bits rfl) _ _
theorem wx_os (s : Fin 2) : (osSlot s).view.WordExact := View.WordExact.reshape (View.wordExact_bits rfl) _ _
theorem wx_o (w : Src) (d : Dev nD) (b : Fin 16) : (oBlk w d b).view.WordExact := View.wordExact_bits rfl
/-- A block of the bf16 rows is stored whole. -/
theorem st_g (b : Fin 16) : (gM.view.slice (xR b)).Stores Finset.univ :=
  View.stores_vmem h_S1024x1024 (View.storeExact_slice_whole cc0_scratch0 rfl _ (Nat.le_refl 2) rfl
    (by show 2 ∣ 1024 * b.val; exact ⟨512 * b.val, by omega⟩) (by show 2 ∣ 1024; decide)) (fun _ => rfl)

/-! ## The steps -/

/-- A block of f32 rows rounded to bf16, -/
def toB (v : Vec F S1x1024x1024 .f32) : FVec F S1024x1024 .bf16 :=
  shapeCast S1024x1024 (truncf .bf16 (shapeCast S1024x1024 v shapeCasts_S1x1024x1024_S1024x1024 : FVec F S1024x1024 .f32) bitsLt_bf16_f32 : FVec F S1024x1024 .bf16) shapeCasts_S1024x1024_S1024x1024
/-- a block of bf16 rows widened to f32, read from the device's own rows, -/
def ofOwn (v : Vec F S1024x1024 .bf16) : FVec F S1x1024x1024 .f32 :=
  shapeCast S1x1024x1024 (extf .f32 (v : FVec F S1024x1024 .bf16) bitsLt_bf16_f32 : FVec F S1024x1024 .f32) shapeCasts_S1024x1024_S1x1024x1024
/-- and read from a staging slot. -/
def ofStage (v : Vec F S1x1024x1024 .bf16) : FVec F S1x1024x1024 .f32 :=
  ofOwn (shapeCast S1024x1024 v shapeCasts_S1x1024x1024_S1024x1024 : FVec F S1024x1024 .bf16)

/-- Start, and await, the copy of block `b` of the argument into staging slot `s`. -/
def xStart (b : Fin 16) (s : Fin 3) (k : Pg F) : Pg F :=
  .op (.enqueueDma (xBlk b) (.here (xsSlot s)) (.dma (xinSem s)) (wx_x b) (wx_xs s) ⟨Or.inl rfl, trivial⟩) fun _ => k
def xWait (b : Fin 16) (s : Fin 3) (k : Pg F) : Pg F :=
  .op (.waitDma2 (xinSem s) (xBlk b) (xsSlot s) (wx_x b) (wx_xs s)) fun _ => k
/-- Round the staged block and store it among the device's own rows. -/
def xStore (b : Fin 16) (s : Fin 3) (k : Pg F) : Pg F :=
  .op (.load xsM (xsR s).toLoadRect (View.loadsAt_vmem h_S1x1024x1024)) fun v =>
  .op (.load gM (xR b).toLoadRect (View.loadsAt_vmem h_S1024x1024)) fun _ =>
  .op (.store gM (xR b) (toB v) Finset.univ (st_g b) (.inl rfl)) fun _ => k
/-- Send quarter `q` of the device's own rows right (into slot 0 there), or left (into slot 1 there). -/
def sendR (d : Dev nD) (q : Fin 4) (k : Pg F) : Pg F :=
  .op (.enqueueDma (gQtr q) (.remote (Dev.tc (rightDev d)) (rQtr 0 q) (.dma (sendSem (Fin.castLE (by decide) q)))) (.dma (recvSem (Fin.castLE (by decide) q)))
    (wx_g q) (wx_rq 0 q) ⟨⟨rfl, Or.inl rfl⟩, trivial⟩) fun _ => k
def sendL (d : Dev nD) (q : Fin 4) (k : Pg F) : Pg F :=
  .op (.enqueueDma (gQtr q) (.remote (Dev.tc (leftDev d)) (rQtr 1 q) (.dma (sendSem (Fin.natAdd 4 (Fin.castLE (by decide) q : Fin 8))))) (.dma (recvSem (Fin.natAdd 4 (Fin.castLE (by decide) q : Fin 8))))
    (wx_g q) (wx_rq 1 q) ⟨⟨rfl, Or.inl rfl⟩, trivial⟩) fun _ => k
/-- Pass quarter `q` of slot `t` on to device `e`'s slot 2. -/
def passOn (e : Dev nD) (t : Fin 3) (q : Fin 4) (k : Pg F) : Pg F :=
  .op (.enqueueDma (rQtr t q) (.remote (Dev.tc e) (rQtr 2 q) (.dma (sendSem (Fin.natAdd 8 q)))) (.dma (recvSem (Fin.natAdd 8 q)))
    (wx_rq t q) (wx_rq 2 q) ⟨⟨rfl, Or.inl rfl⟩, trivial⟩) fun _ => k
/-- Await landing `j`, named by its quarter of slot `t` and the quarter of the own rows it was sent from; -/
def recvOwn (j : Fin 12) (t : Fin 3) (q : Fin 4) (k : Pg F) : Pg F :=
  .op (.waitDma2 (recvSem j) (gQtr q) (rQtr t q) (wx_g q) (wx_rq t q)) fun _ => k
/-- a landing passed on by a neighbour from its slot `t`; -/
def recvPass (t : Fin 3) (q : Fin 4) (k : Pg F) : Pg F :=
  .op (.waitDma2 (recvSem (Fin.natAdd 8 q)) (rQtr t q) (rQtr 2 q) (wx_rq t q) (wx_rq 2 q)) fun _ => k
/-- and the sends' own ends. -/
def sentOwn (j : Fin 12) (t : Fin 3) (q : Fin 4) (k : Pg F) : Pg F :=
  .op (.waitDma2 (sendSem j) (rQtr t q) (gQtr q) (wx_rq t q) (wx_g q)) fun _ => k
def sentPass (t : Fin 3) (q : Fin 4) (k : Pg F) : Pg F :=
  .op (.waitDma2 (sendSem (Fin.natAdd 8 q)) (rQtr 2 q) (rQtr t q) (wx_rq 2 q) (wx_rq t q)) fun _ => k
/-- Start, and await, the copy of an output block from staging slot `s`. -/
def oStart (w : Src) (d : Dev nD) (b : Fin 16) (s : Fin 2) (k : Pg F) : Pg F :=
  .op (.enqueueDma (osSlot s) (.here (oBlk w d b)) (.dma (outSem s)) (wx_os s) (wx_o w d b) ⟨Or.inl rfl, trivial⟩) fun _ => k
def oWait (w : Src) (d : Dev nD) (b : Fin 16) (s : Fin 2) (k : Pg F) : Pg F :=
  .op (.waitDma2 (outSem s) (osSlot s) (oBlk w d b) (wx_os s) (wx_o w d b)) fun _ => k
/-- Widen block `b` of the own rows into output slot `s`. -/
def ownStore (b : Fin 16) (s : Fin 2) (k : Pg F) : Pg F :=
  .op (.load gM (xR b).toLoadRect (View.loadsAt_vmem h_S1024x1024)) fun v =>
  .op (.load osM (stR s).toLoadRect (View.loadsAt_vmem h_S1x1024x1024)) fun _ =>
  .op (.store osM (stR s) (ofOwn v) Finset.univ (View.stores_vmem_bits_univ h_S1x1024x1024 rfl) (.inl rfl)) fun _ => k
/-- Start, and await, the copy of block `b` of landing slot `t` into staging slot `s`, -/
def cStart (t : Fin 3) (b : Fin 16) (s : Fin 2) (k : Pg F) : Pg F :=
  .op (.enqueueDma (rBlk t b) (.here (csSlot s)) (.dma (cinSem s)) (wx_rb t b) (wx_cs s) ⟨Or.inl rfl, trivial⟩) fun _ => k
def cWait (t : Fin 3) (b : Fin 16) (s : Fin 2) (k : Pg F) : Pg F :=
  .op (.waitDma2 (cinSem s) (rBlk t b) (csSlot s) (wx_rb t b) (wx_cs s)) fun _ => k
/-- and widen the staged block into output slot `s`. -/
def cStore (s : Fin 2) (k : Pg F) : Pg F :=
  .op (.load csM (stR s).toLoadRect (View.loadsAt_vmem h_S1x1024x1024)) fun v =>
  .op (.load osM (stR s).toLoadRect (View.loadsAt_vmem h_S1x1024x1024)) fun _ =>
  .op (.store osM (stR s) (ofStage v) Finset.univ (View.stores_vmem_bits_univ h_S1x1024x1024 rfl) (.inl rfl)) fun _ => k

/-! ## The loops -/

/-- A loop over `n` consecutive numbers from `b`. -/
def loop (body : ℕ → Pg F → Pg F) : ℕ → ℕ → Pg F → Pg F
  | _, 0, k => k
  | b, n + 1, k => body b (loop body (b + 1) n k)

/-- Do a step only where a condition holds. -/
def whenP (p : Prop) [Decidable p] (f : Pg F → Pg F) (k : Pg F) : Pg F := if p then f k else k

/-- Block `b`; the slot of three, and of two, that block `b` uses. -/
abbrev bk (b : ℕ) : Fin 16 := Fin.ofNat 16 b
abbrev s3 (b : ℕ) : Fin 3 := Fin.ofNat 3 b
abbrev s2 (b : ℕ) : Fin 2 := Fin.ofNat 2 b

/-- Round one block of the argument; start the copy two blocks on; after a quarter's last block send the quarter both ways. -/
def castIter (d : Dev nD) (b : ℕ) (k : Pg F) : Pg F :=
  xWait (bk b) (s3 b) <| xStore (bk b) (s3 b) <| whenP (b + 2 < 16) (xStart (bk (b + 2)) (s3 (b + 2))) <|
  whenP ((b + 1) % 4 = 0) (fun k => sendR d (Fin.ofNat 4 (b / 4)) (sendL d (Fin.ofNat 4 (b / 4)) k)) k
/-- Write one block of the device's own rows out. -/
def ownIter (d : Dev nD) (b : ℕ) (k : Pg F) : Pg F :=
  whenP (2 ≤ b) (oWait .own d (bk (b - 2)) (s2 b)) <| ownStore (bk b) (s2 b) <| oStart .own d (bk b) (s2 b) k
def ownOut (d : Dev nD) (k : Pg F) : Pg F :=
  loop (ownIter d) 0 16 <| oWait .own d (bk 14) 0 <| oWait .own d (bk 15) 1 k
/-- Write block `b0 + b` of landing slot `t` out, `n` blocks in all. -/
def convIter (w : Src) (t : Fin 3) (d : Dev nD) (b0 n b : ℕ) (k : Pg F) : Pg F :=
  whenP (b + 1 < n) (cStart t (bk (b0 + (b + 1))) (s2 (b + 1))) <| cWait t (bk (b0 + b)) (s2 b) <|
  whenP (2 ≤ b) (oWait w d (bk (b0 + (b - 2))) (s2 b)) <| cStore (s2 b) <| oStart w d (bk (b0 + b)) (s2 b) k
def conv (w : Src) (t : Fin 3) (d : Dev nD) (b0 n : ℕ) (k : Pg F) : Pg F :=
  cStart t (bk b0) 0 <| loop (convIter w t d b0 n) 0 n <|
  oWait w d (bk (b0 + (n - 2))) 0 <| oWait w d (bk (b0 + (n - 1))) 1 k

/-- The barrier: a unit to each neighbour, then two awaited. -/
def barrier (d : Dev nD) (k : Pg F) : Pg F :=
  (semSignalWord (Val := Elt F) (Λ := Λ₀) (leftDev d) barSem 1#32).bind fun _ =>
  (semSignalWord (Val := Elt F) (Λ := Λ₀) (rightDev d) barSem 1#32).bind fun _ =>
  (semWaitWord (Val := Elt F) (Λ := Λ₀) barSem 2#32).bind fun _ => k

/-- From the barrier to the last block of the device's own rows out. -/
def phase1 (d : Dev nD) (k : Pg F) : Pg F :=
  barrier d <| xStart (bk 0) 0 <| xStart (bk 1) 1 <| loop (castIter d) 0 16 <| ownOut d k
/-- The neighbours' rows: received, passed on and written out. -/
def phase2 (d : Dev nD) (k : Pg F) : Pg F :=
  recvOwn 0 0 0 <| passOn (rightDev d) 0 0 <| recvOwn 1 0 1 <| passOn (rightDev d) 0 1 <|
  conv .left 0 d 0 8 <|
  recvOwn 4 1 0 <| recvOwn 5 1 1 <| conv .right 1 d 0 8 <|
  recvOwn 6 1 2 <| passOn (leftDev d) 1 2 <| recvOwn 7 1 3 <| passOn (leftDev d) 1 3 <|
  recvOwn 2 0 2 <| recvOwn 3 0 3 <| conv .left 0 d 8 8 <| conv .right 1 d 8 8 k
/-- The rows of the device opposite. -/
def phase3 (d : Dev nD) (k : Pg F) : Pg F :=
  recvPass 0 0 <| conv .opp 2 d 0 4 <| recvPass 1 2 <| conv .opp 2 d 8 4 <|
  recvPass 0 1 <| conv .opp 2 d 4 4 <| recvPass 1 3 <| conv .opp 2 d 12 4 k
/-- Every send's own end. -/
def phase4 (k : Pg F) : Pg F :=
  sentOwn 0 0 0 <| sentOwn 1 0 1 <| sentOwn 2 0 2 <| sentOwn 3 0 3 <|
  sentOwn 4 1 0 <| sentOwn 5 1 1 <| sentOwn 6 1 2 <| sentOwn 7 1 3 <|
  sentPass 0 0 <| sentPass 0 1 <| sentPass 1 2 <| sentPass 1 3 k

variable (F) in
/-- The body. -/
def body : Pg F := .op .deviceId fun d => phase1 d <| phase2 d <| phase3 d <| phase4 (.ret ⟨⟩)

/-- The printed body, on the launch's buffers, is the loops unrolled. -/
theorem bodyAt_eq (t : Fin cfg0.N) : (Gen.bodyAt0 t : Pg F) = body F := by
  chain_rfl

end Cert.KernelIdeal.Ring

end
-- ==== Proof.Geo.lean ====
/- The pieces of the buffers as sets of rows, the contents each buffer holds through the run as functions of the
   devices' arguments, and what each copy and each store of the body writes in those terms. -/
module

public import proofs.«01_k».proof.Proof.Steps
public import Idealize.ShloMosaic.Lib.Pipeline.Value

@[expose] public section

noncomputable section

namespace Cert.KernelIdeal.Ring

open Idealize.ShloMosaic Idealize.ShloMosaic.TcCoe Idealize.SL.Sem Cert.KernelIdeal Cert.KernelIdeal.Gen

variable {F : FTy → Type} [FloatOps F]

/-! ## The ring -/

/-- The device one on, one back, and two on. -/
def nxt (c : Dev nD) : Dev nD := ⟨(c.val + 1) % 4, Nat.mod_lt _ (by decide)⟩
def prv (c : Dev nD) : Dev nD := ⟨(c.val + 3) % 4, Nat.mod_lt _ (by decide)⟩
def opp (c : Dev nD) : Dev nD := ⟨(c.val + 2) % 4, Nat.mod_lt _ (by decide)⟩

/-- The neighbours around the ring: there and back, twice the same way, and never the same one. -/
theorem prv_nxt (c : Dev nD) : prv (nxt c) = c := by revert c; decide
theorem nxt_prv (c : Dev nD) : nxt (prv c) = c := by revert c; decide
theorem prv_prv (c : Dev nD) : prv (prv c) = opp c := by revert c; decide
theorem nxt_nxt (c : Dev nD) : nxt (nxt c) = opp c := by revert c; decide
theorem nxt_ne_prv (c : Dev nD) : nxt c ≠ prv c := by revert c; decide

/-- The devices the program computes are the neighbours. -/
theorem leftDev_eq (c : Dev nD) : leftDev c = prv c := by revert c; decide +kernel
theorem rightDev_eq (c : Dev nD) : rightDev c = nxt c := by revert c; decide +kernel

/-- The device whose rows a source names, -/
def wDev (w : Src) (c : Dev nD) : Dev nD := match w with
  | .own => c | .left => prv c | .right => nxt c | .opp => opp c
/-- and whose rows land in slot `t`. -/
def tDev (t : Fin 3) (c : Dev nD) : Dev nD := match t with
  | 0 => prv c | 1 => nxt c | 2 => opp c

/-- A block of the result sits at its device's rows. -/
theorem oOff_eq (w : Src) (d : Dev nD) (b : Fin 16) : oOff w d b = ![16384 * (wDev w d).val + 1024 * b.val, 0] := by
  revert w d b
  have h : ∀ w ∈ [Src.own, .left, .right, .opp], ∀ d b, oOff w d b = ![16384 * (wDev w d).val + 1024 * b.val, 0] := by decide +kernel
  intro w d b
  exact h w (by cases w <;> decide) d b

/-! ## Sets of rows -/

/-- Indices of a matrix of `N` rows, and of a stack of `S` of them. -/
abbrev I2 (N : ℕ) : Type := (⟨2, ![N, 1024]⟩ : Shape).Idx
abbrev I3 (S N : ℕ) : Type := (⟨3, ![S, N, 1024]⟩ : Shape).Idx

/-- An index is its coordinates. -/
theorem ext2 {N : ℕ} {i j : I2 N} (h0 : (i 0).val = (j 0).val) (h1 : (i 1).val = (j 1).val) : i = j := by
  funext a; apply Fin.ext; fin_cases a
  · exact h0
  · exact h1
theorem ext3 {S N : ℕ} {i j : I3 S N} (h0 : (i 0).val = (j 0).val) (h1 : (i 1).val = (j 1).val) (h2 : (i 2).val = (j 2).val) : i = j := by
  funext a; apply Fin.ext; fin_cases a
  · exact h0
  · exact h1
  · exact h2

/-- Rows `lo` to `hi` of a matrix, -/
def rows2 {N : ℕ} (lo hi : ℕ) : Finset (I2 N) := Finset.univ.filter fun i => lo ≤ (i 0).val ∧ (i 0).val < hi
/-- and of member `s` of a stack. -/
def rows3 {S N : ℕ} (s lo hi : ℕ) : Finset (I3 S N) := Finset.univ.filter fun i => (i 0).val = s ∧ lo ≤ (i 1).val ∧ (i 1).val < hi

/-- The elements of some rows, of an array and of one member of a stack. -/
theorem mem_rows2 {N lo hi : ℕ} {i : I2 N} : Iff (i ∈ rows2 lo hi) (lo ≤ (i 0).val ∧ (i 0).val < hi) := by simp [rows2]
theorem mem_rows3 {S N s lo hi : ℕ} {i : I3 S N} : Iff (i ∈ rows3 s lo hi) ((i 0).val = s ∧ lo ≤ (i 1).val ∧ (i 1).val < hi) := by simp [rows3]

/-- Rows split at any row between. -/
theorem rows2_split {N lo mid hi : ℕ} (h1 : lo ≤ mid) (h2 : mid ≤ hi) : (rows2 lo hi : Finset (I2 N)) = rows2 lo mid ∪ rows2 mid hi := by
  ext i; simp only [Finset.mem_union, mem_rows2]; omega
/-- Ranges of rows that meet at an end are disjoint, and join. -/
theorem rows2_disj {N lo mid hi : ℕ} : Disjoint (rows2 lo mid : Finset (I2 N)) (rows2 mid hi) := by
  rw [Finset.disjoint_left]; intro i; simp only [mem_rows2]; omega
theorem rows3_split {S N s lo mid hi : ℕ} (h1 : lo ≤ mid) (h2 : mid ≤ hi) : (rows3 s lo hi : Finset (I3 S N)) = rows3 s lo mid ∪ rows3 s mid hi := by
  ext i; simp only [Finset.mem_union, mem_rows3]; omega
theorem rows3_disj {S N s lo mid hi : ℕ} : Disjoint (rows3 s lo mid : Finset (I3 S N)) (rows3 s mid hi) := by
  rw [Finset.disjoint_left]; intro i; simp only [mem_rows3]; omega
/-- No rows; all rows. -/
theorem rows2_empty {N lo : ℕ} : (rows2 lo lo : Finset (I2 N)) = ∅ := by
  ext i; simp only [mem_rows2, Finset.notMem_empty, iff_false]; omega
theorem rows3_empty {S N s lo : ℕ} : (rows3 s lo lo : Finset (I3 S N)) = ∅ := by
  ext i; simp only [mem_rows3, Finset.notMem_empty, iff_false]; omega
theorem rows2_univ {N : ℕ} : (rows2 0 N : Finset (I2 N)) = Finset.univ := by
  ext i; simp only [mem_rows2, Finset.mem_univ, iff_true]
  exact ⟨Nat.zero_le _, (i 0).isLt⟩

/-- A unit rectangle of whole rows is a set of rows. -/
theorem rect2_set {N o n : ℕ} {inb} : (Rect.unit (s := ⟨2, ![N, 1024]⟩) ![o, 0] ![n, 1024] inb).set = rows2 o (o + n) := by
  ext i; rw [Rect.mem_set_unit, mem_rows2]
  constructor
  · intro h; exact h 0
  · intro h a; fin_cases a
    · exact h
    · exact ⟨Nat.zero_le _, by have := (i 1).isLt; show (i 1).val < 0 + 1024; simpa using this⟩
/-- A rectangle of whole rows in one member of a stack is those rows. -/
theorem rect3_set {S N s o n : ℕ} {inb} : (Rect.unit (s := ⟨3, ![S, N, 1024]⟩) ![s, o, 0] ![1, n, 1024] inb).set = rows3 s o (o + n) := by
  ext i; rw [Rect.mem_set_unit, mem_rows3]
  constructor
  · intro h
    have h0 : s ≤ (i 0).val ∧ (i 0).val < s + 1 := h 0
    exact ⟨by omega, h 1⟩
  · intro h a; fin_cases a
    · show s ≤ (i 0).val ∧ (i 0).val < s + 1; omega
    · exact h.2
    · exact ⟨Nat.zero_le _, by have := (i 2).isLt; show (i 2).val < 0 + 1024; simpa using this⟩

/-- A unit rectangle of whole rows places an index at its own columns, its rows shifted. -/
theorem emb2_val {N o n : ℕ} {inb} (j : I2 n) :
    ((Rect.unit (s := ⟨2, ![N, 1024]⟩) ![o, 0] ![n, 1024] inb).emb j 0).val = o + (j 0).val
      ∧ ((Rect.unit (s := ⟨2, ![N, 1024]⟩) ![o, 0] ![n, 1024] inb).emb j 1).val = (j 1).val := by
  constructor
  · show o + 1 * (j 0).val = _; omega
  · show 0 + 1 * (j 1).val = _; omega
theorem emb3_val {S N s o n : ℕ} {inb} (j : (⟨3, ![1, n, 1024]⟩ : Shape).Idx) :
    ((Rect.unit (s := ⟨3, ![S, N, 1024]⟩) ![s, o, 0] ![1, n, 1024] inb).emb j 0).val = s
      ∧ ((Rect.unit (s := ⟨3, ![S, N, 1024]⟩) ![s, o, 0] ![1, n, 1024] inb).emb j 1).val = o + (j 1).val
      ∧ ((Rect.unit (s := ⟨3, ![S, N, 1024]⟩) ![s, o, 0] ![1, n, 1024] inb).emb j 2).val = (j 2).val := by
  have h0 : (j 0).val < 1 := (j 0).isLt
  refine ⟨?_, ?_, ?_⟩
  · show s + 1 * (j 0).val = _; omega
  · show o + 1 * (j 1).val = _; omega
  · show 0 + 1 * (j 2).val = _; omega

/-- The rows behind each view of the program. -/
theorem set_xR (b : Fin 16) : (xR b).set = rows2 (1024 * b.val) (1024 * b.val + 1024) := rect2_set
theorem set_xBlk (b : Fin 16) : (xBlk b).view.set = rows2 (1024 * b.val) (1024 * b.val + 1024) :=
  (View.set_slice_whole _ _).trans (set_xR b)
theorem set_gAcc (b : Fin 16) : (gM.access (xR b)).set = rows2 (1024 * b.val) (1024 * b.val + 1024) :=
  (View.set_slice_whole _ _).trans (set_xR b)
theorem set_gQtr (k : Fin 4) : (gQtr k).view.set = rows2 (4096 * k.val) (4096 * k.val + 4096) :=
  (View.set_slice_whole _ _).trans rect2_set
theorem set_oBlk (w : Src) (d : Dev nD) (b : Fin 16) :
    (oBlk w d b).view.set = rows2 (16384 * (wDev w d).val + 1024 * b.val) (16384 * (wDev w d).val + 1024 * b.val + 1024) := by
  refine (View.set_slice_whole _ _).trans ?_
  have : ∀ (o : Fin 2 → ℕ) (ho : o = ![16384 * (wDev w d).val + 1024 * b.val, 0]) (inb),
      (Rect.unit (s := S65536x1024) o S1024x1024.size inb).set = rows2 (16384 * (wDev w d).val + 1024 * b.val) (16384 * (wDev w d).val + 1024 * b.val + 1024) := by
    intro o ho inb; subst ho; exact rect2_set
  exact this _ (oOff_eq w d b) _
theorem set_xsR (s : Fin 3) : (xsM.access (xsR s)).set = rows3 s.val 0 1024 := (View.set_slice_whole _ _).trans rect3_set
theorem set_csR (s : Fin 2) : (csM.access (stR s)).set = rows3 s.val 0 1024 := (View.set_slice_whole _ _).trans rect3_set
theorem set_osR (s : Fin 2) : (osM.access (stR s)).set = rows3 s.val 0 1024 := (View.set_slice_whole _ _).trans rect3_set
theorem set_xsSlot (s : Fin 3) : (xsSlot s).view.set = rows3 s.val 0 1024 := (View.set_reshape _ _).trans (set_xsR s)
theorem set_csSlot (s : Fin 2) : (csSlot s).view.set = rows3 s.val 0 1024 := (View.set_reshape _ _).trans (set_csR s)
theorem set_osSlot (s : Fin 2) : (osSlot s).view.set = rows3 s.val 0 1024 := (View.set_reshape _ _).trans (set_osR s)
theorem set_rBlk (t : Fin 3) (b : Fin 16) : (rBlk t b).view.set = rows3 t.val (1024 * b.val) (1024 * b.val + 1024) :=
  (View.set_reshape _ _).trans ((View.set_slice_whole _ _).trans rect3_set)
theorem set_rQtr (t : Fin 3) (k : Fin 4) : (rQtr t k).view.set = rows3 t.val (4096 * k.val) (4096 * k.val + 4096) :=
  (View.set_reshape _ _).trans ((View.set_slice_whole _ _).trans rect3_set)

/-! ## Contents -/

section Contents
variable (m : (ℓ : Loc nD τ sig) → Buf (Elt F) ℓ)

/-- Row `r` of block `b`. -/
def brow (b : Fin 16) (r : Fin 1024) : Fin 16384 := ⟨1024 * b.val + r.val, by omega⟩

/-- Device `c`'s argument, its rows rounded to bf16, and what lands on it: slot `t` holds its sender's rows. -/
def X (c : Dev nD) : I2 16384 → F .f32 := m (c.tc.loc main_arg0)
def G (c : Dev nD) : I2 16384 → F .bf16 := fun i => FloatOps.truncf .bf16 bitsLt_bf16_f32 (X m c i)
def R (c : Dev nD) : I3 3 16384 → F .bf16 := fun i => G m (tDev (i 0) c) (Shape.pair (d := ![16384, 1024]) (i 1) (i 2))
/-- The result, the same on every device: each device's rows, rounded to bf16 and widened back. -/
def O : I2 65536 → F .f32 := fun i =>
  FloatOps.extf .f32 bitsLt_bf16_f32 (G m ⟨(i 0).val / 16384, by have h : (i 0).val < 65536 := (i 0).isLt; show _ < 4; omega⟩
    (Shape.pair (d := ![16384, 1024]) ⟨(i 0).val % 16384, Nat.mod_lt _ (by decide)⟩ (i 1)))
end Contents

/-- A staging slot holding block `b` of `g`; and, widened, of the bf16 rows `g`. -/
def stage {α : Type} {S : ℕ} (g : I2 16384 → α) (b : Fin 16) : I3 S 1024 → α := fun i => g (Shape.pair (d := ![16384, 1024]) (brow b (i 1)) (i 2))
def wide (g : I2 16384 → F .bf16) : I2 16384 → F .f32 := fun i => FloatOps.extf .f32 bitsLt_bf16_f32 (g i)

/-! ## What the copies and stores write -/

/-- A write through a view on all its elements satisfies what each element written satisfies. -/
theorem write_on {sp : Space} {s : Shape} {e : EltTy} (v : View sig .tc sp s e) (f g : v.ty.Contents (Elt F)) (w : s.Idx → Elt F e)
    (h : ∀ j, v.read (Elt F) g j = w j) : ∀ i ∈ v.set, v.write (Elt F) f w Finset.univ i = g i := by
  intro i hi
  obtain ⟨j, -, rfl⟩ := Finset.mem_map.mp hi
  have hj := h j
  rw [View.write_emb_of_mem _ _ (Finset.mem_univ j), ← hj, View.read_apply, cast_cast, cast_eq]

variable (m : (ℓ : Loc nD τ sig) → Buf (Elt F) ℓ)

/-- An index of the squeezed matrix behind the unit coordinate. -/
abbrev under {n : ℕ} (j : I2 n) : (⟨3, ![1, n, 1024]⟩ : Shape).Idx := Fin.cons ⟨0, Nat.one_pos⟩ j

/-- What each view reads of an array, at an index. -/
theorem read_xBlk (g : I2 16384 → F .f32) (b : Fin 16) (j : I2 1024) :
    (xBlk b).view.read (Elt F) g j = g (Shape.pair (d := ![16384, 1024]) (brow b (j 0)) (j 1)) :=
  congrArg g (ext2 (emb2_val (inb := inb2 (blk_le b)) j).1 (emb2_val (inb := inb2 (blk_le b)) j).2)
theorem read_gAcc (g : I2 16384 → F .bf16) (b : Fin 16) (j : I2 1024) :
    (gM.access (xR b)).read (Elt F) g j = g (Shape.pair (d := ![16384, 1024]) (brow b (j 0)) (j 1)) :=
  congrArg g (ext2 (emb2_val (inb := inb2 (blk_le b)) j).1 (emb2_val (inb := inb2 (blk_le b)) j).2)
/-- Row `r` of quarter `k`. -/
def qrow (k : Fin 4) (r : Fin 4096) : Fin 16384 := ⟨4096 * k.val + r.val, by omega⟩
theorem read_gQtr (g : I2 16384 → F .bf16) (k : Fin 4) (j : I2 4096) :
    (gQtr k).view.read (Elt F) g j = g (Shape.pair (d := ![16384, 1024]) (qrow k (j 0)) (j 1)) :=
  congrArg g (ext2 (emb2_val (inb := inb2 (qtr_le k)) j).1 (emb2_val (inb := inb2 (qtr_le k)) j).2)

/-- A squeezed slot reads at the index behind the unit coordinate. -/
theorem read_xsSlot (g : I3 3 1024 → F .f32) (s : Fin 3) (j : I2 1024) :
    (xsSlot s).view.read (Elt F) g j = (xsM.access (xsR s)).read (Elt F) g (under j) := by
  show g ((xsR s).emb (Shape.reshapeEquiv _ j)) = g ((xsR s).emb (under j))
  exact congrArg g (congrArg _ (Shape.reshapeEquiv_cons_one _ j))
theorem read_csSlot (g : I3 2 1024 → F .bf16) (s : Fin 2) (j : I2 1024) :
    (csSlot s).view.read (Elt F) g j = (csM.access (stR s)).read (Elt F) g (under j) := by
  show g ((stR s).emb (Shape.reshapeEquiv _ j)) = g ((stR s).emb (under j))
  exact congrArg g (congrArg _ (Shape.reshapeEquiv_cons_one _ j))
theorem read_osSlot (g : I3 2 1024 → F .f32) (s : Fin 2) (j : I2 1024) :
    (osSlot s).view.read (Elt F) g j = (osM.access (stR s)).read (Elt F) g (under j) := by
  show g ((stR s).emb (Shape.reshapeEquiv _ j)) = g ((stR s).emb (under j))
  exact congrArg g (congrArg _ (Shape.reshapeEquiv_cons_one _ j))

theorem stR_emb (s : Fin 2) (j : (⟨3, ![1, 1024, 1024]⟩ : Shape).Idx) :
    ((stR s).emb j 1).val = (j 1).val ∧ ((stR s).emb j 2).val = (j 2).val :=
  have h := (emb3_val (inb := inb3 (N := 1024) (n := 1024) (o := 0) s.isLt (Nat.le_refl _)) j).2
  ⟨h.1.trans (Nat.zero_add _), h.2⟩
theorem xsR_emb (s : Fin 3) (j : (⟨3, ![1, 1024, 1024]⟩ : Shape).Idx) :
    ((xsR s).emb j 1).val = (j 1).val ∧ ((xsR s).emb j 2).val = (j 2).val :=
  have h := (emb3_val (inb := inb3 (N := 1024) (n := 1024) (o := 0) s.isLt (Nat.le_refl _)) j).2
  ⟨h.1.trans (Nat.zero_add _), h.2⟩

theorem stage_congr {α : Type} {S : ℕ} (g : I2 16384 → α) (b : Fin 16) (i : I3 S 1024) (r k : Fin 1024) (h1 : (i 1).val = r.val) (h2 : (i 2).val = k.val) :
    stage g b i = g (Shape.pair (d := ![16384, 1024]) (brow b r) k) := by
  unfold stage
  refine congrArg g (ext2 ?_ ?_)
  · show 1024 * b.val + (i 1).val = 1024 * b.val + r.val; omega
  · exact h2

/-- A staging slot that holds a block reads as that block. -/
theorem read_xs_stage (g : I2 16384 → F .f32) (b : Fin 16) (s : Fin 3) (j : (⟨3, ![1, 1024, 1024]⟩ : Shape).Idx) :
    (xsM.access (xsR s)).read (Elt F) (stage g b) j = g (Shape.pair (d := ![16384, 1024]) (brow b (j 1)) (j 2)) :=
  stage_congr g b _ _ _ (xsR_emb s j).1 (xsR_emb s j).2
theorem read_cs_stage (g : I2 16384 → F .bf16) (b : Fin 16) (s : Fin 2) (j : (⟨3, ![1, 1024, 1024]⟩ : Shape).Idx) :
    (csM.access (stR s)).read (Elt F) (stage g b) j = g (Shape.pair (d := ![16384, 1024]) (brow b (j 1)) (j 2)) :=
  stage_congr g b _ _ _ (stR_emb s j).1 (stR_emb s j).2
theorem read_os_stage (g : I2 16384 → F .f32) (b : Fin 16) (s : Fin 2) (j : (⟨3, ![1, 1024, 1024]⟩ : Shape).Idx) :
    (osM.access (stR s)).read (Elt F) (stage g b) j = g (Shape.pair (d := ![16384, 1024]) (brow b (j 1)) (j 2)) :=
  stage_congr g b _ _ _ (stR_emb s j).1 (stR_emb s j).2

/-- The copy of a block of the argument stages that block. -/
theorem write_xs (f : I3 3 1024 → F .f32) (g : I2 16384 → F .f32) (b : Fin 16) (s : Fin 3) :
    ∀ i ∈ (xsSlot s).view.set, (xsSlot s).view.write (Elt F) f ((xBlk b).view.read (Elt F) g) Finset.univ i = stage g b i :=
  write_on (xsSlot s).view f (stage g b) _ fun j =>
    (read_xsSlot _ s j).trans ((read_xs_stage g b s (under j)).trans (read_xBlk g b j).symm)

/-- Storing the rounded staged block stores that block of the rounded rows. -/
theorem write_g (f : I2 16384 → F .bf16) (c : Dev nD) (b : Fin 16) (s : Fin 3) :
    ∀ i ∈ (gM.access (xR b)).set, (gM.access (xR b)).write (Elt F) f (toB ((xsM.access (xsR s)).read (Elt F) (stage (X m c) b))) Finset.univ i = G m c i :=
  write_on (gM.access (xR b)) f (G m c) _ fun j => by
    refine (read_gAcc (G m c) b j).trans ?_
    unfold toB
    rw [shapeCast_self]
    exact congrArg (FloatOps.truncf .bf16 bitsLt_bf16_f32) ((shapeCast_dropUnit_apply ![1024, 1024] _ _ j).trans (read_xs_stage (X m c) b s (under j))).symm

/-- Storing the widened block of the own rows stages it for output, -/
theorem write_os_own (f : I3 2 1024 → F .f32) (g : I2 16384 → F .bf16) (b : Fin 16) (s : Fin 2) :
    ∀ i ∈ (osM.access (stR s)).set, (osM.access (stR s)).write (Elt F) f (ofOwn ((gM.access (xR b)).read (Elt F) g)) Finset.univ i = stage (wide g) b i :=
  write_on (osM.access (stR s)) f (stage (wide g) b) _ fun j => by
    refine (read_os_stage (wide g) b s j).trans ?_
    unfold ofOwn
    refine Eq.trans ?_ (shapeCast_addUnit_apply ![1024, 1024] _ _ j).symm
    exact congrArg (FloatOps.extf .f32 bitsLt_bf16_f32) (read_gAcc g b fun a => j a.succ).symm
/-- and so does storing the widened staged block. -/
theorem write_os_stage (f : I3 2 1024 → F .f32) (g : I2 16384 → F .bf16) (b : Fin 16) (s : Fin 2) :
    ∀ i ∈ (osM.access (stR s)).set, (osM.access (stR s)).write (Elt F) f (ofStage ((csM.access (stR s)).read (Elt F) (stage g b))) Finset.univ i = stage (wide g) b i :=
  write_on (osM.access (stR s)) f (stage (wide g) b) _ fun j => by
    refine (read_os_stage (wide g) b s j).trans ?_
    unfold ofStage ofOwn
    refine Eq.trans ?_ (shapeCast_addUnit_apply ![1024, 1024] _ _ j).symm
    exact congrArg (FloatOps.extf .f32 bitsLt_bf16_f32)
      ((shapeCast_dropUnit_apply ![1024, 1024] _ _ _).trans (read_cs_stage g b s (under fun a => j a.succ))).symm

theorem tDev_val {t t' : Fin 3} (h : t.val = t'.val) (c : Dev nD) : tDev t c = tDev t' c := by rw [Fin.ext h]

/-- An entry of the landing buffer. -/
theorem R_at (c : Dev nD) (t : Fin 3) (i : I3 3 16384) (r : Fin 16384) (k : Fin 1024) (h0 : (i 0).val = t.val) (h1 : (i 1).val = r.val) (h2 : (i 2).val = k.val) :
    R m c i = G m (tDev t c) (Shape.pair (d := ![16384, 1024]) r k) := by
  unfold R
  rw [show tDev (i 0) c = tDev t c from congrArg (tDev · c) (Fin.ext h0)]
  exact congrArg _ (ext2 h1 h2)

theorem read_rBlk (c : Dev nD) (t : Fin 3) (b : Fin 16) (j : I2 1024) :
    (rBlk t b).view.read (Elt F) (R m c) j = G m (tDev t c) (Shape.pair (d := ![16384, 1024]) (brow b (j 0)) (j 1)) :=
  have e : Shape.reshapeEquiv _ j = under j := Shape.reshapeEquiv_cons_one _ j
  have h := emb3_val (inb := inb3 t.isLt (blk_le b)) (under j)
  (congrArg (fun k => R m c (Rect.emb (Rect.unit (s := S3x16384x1024) ![t.val, 1024 * b.val, 0] S1x1024x1024.size (inb3 t.isLt (blk_le b))) k)) e).trans
    (R_at m c t _ _ _ h.1 h.2.1 h.2.2)
theorem read_rQtr (c : Dev nD) (t : Fin 3) (k : Fin 4) (j : I2 4096) :
    (rQtr t k).view.read (Elt F) (R m c) j = G m (tDev t c) (Shape.pair (d := ![16384, 1024]) (qrow k (j 0)) (j 1)) :=
  have e : Shape.reshapeEquiv _ j = under j := Shape.reshapeEquiv_cons_one _ j
  have h := emb3_val (inb := inb3 t.isLt (qtr_le k)) (under j)
  (congrArg (fun i => R m c (Rect.emb (Rect.unit (s := S3x16384x1024) ![t.val, 4096 * k.val, 0] S1x4096x1024.size (inb3 t.isLt (qtr_le k))) i)) e).trans
    (R_at m c t _ _ _ h.1 h.2.1 h.2.2)

/-- A quarter sent lands as the receiver's slot says, -/
theorem write_r_own (f : I3 3 16384 → F .bf16) (c e : Dev nD) (t : Fin 3) (k : Fin 4) (h : tDev t e = c) :
    ∀ i ∈ (rQtr t k).view.set, (rQtr t k).view.write (Elt F) f ((gQtr k).view.read (Elt F) (G m c)) Finset.univ i = R m e i :=
  write_on (rQtr t k).view f (R m e) _ fun j =>
    (read_rQtr m e t k j).trans ((congrArg (fun d => G m d _) h).trans (read_gQtr (G m c) k j).symm)
/-- and so does a quarter passed on. -/
theorem write_r_pass (f : I3 3 16384 → F .bf16) (c e : Dev nD) (t : Fin 3) (k : Fin 4) (h : tDev 2 e = tDev t c) :
    ∀ i ∈ (rQtr 2 k).view.set, (rQtr 2 k).view.write (Elt F) f ((rQtr t k).view.read (Elt F) (R m c)) Finset.univ i = R m e i :=
  write_on (rQtr 2 k).view f (R m e) _ fun j =>
    (read_rQtr m e 2 k j).trans ((congrArg (fun d => G m d _) h).trans (read_rQtr m c t k j).symm)

/-- The copy of a landed block stages its sender's block. -/
theorem write_cs (f : I3 2 1024 → F .bf16) (c : Dev nD) (t : Fin 3) (b : Fin 16) (s : Fin 2) :
    ∀ i ∈ (csSlot s).view.set, (csSlot s).view.write (Elt F) f ((rBlk t b).view.read (Elt F) (R m c)) Finset.univ i = stage (G m (tDev t c)) b i :=
  write_on (csSlot s).view f (stage (G m (tDev t c)) b) _ fun j =>
    (read_csSlot _ s j).trans ((read_cs_stage (G m (tDev t c)) b s (under j)).trans (read_rBlk m c t b j).symm)

/-- An entry of the result: the entry of the device whose row it is, widened. -/
theorem O_at (d : Dev nD) (i : I2 65536) (r : Fin 16384) (k : Fin 1024) (h0 : (i 0).val = 16384 * d.val + r.val) (h1 : (i 1).val = k.val) :
    O m i = wide (G m d) (Shape.pair (d := ![16384, 1024]) r k) := by
  have hr := r.isLt
  have hd : d.val < 4 := d.isLt
  unfold O wide
  refine congrArg _ ((congrFun (congrArg (G m) (Fin.ext ?_ : _ = d)) _).trans (congrArg (G m d) (ext2 ?_ h1)))
  · show (i 0).val / 16384 = d.val; rw [h0]; omega
  · show (i 0).val % 16384 = r.val; rw [h0]; omega
/-- Where an entry of a written block lies in the result. -/
theorem oBlk_row (w : Src) (d : Dev nD) (b : Fin 16) (j : I2 1024) : oOff w d b 0 + 1 * (j 0).val = 16384 * (wDev w d).val + (brow b (j 0)).val := by
  rw [oOff_eq]; show 16384 * (wDev w d).val + 1024 * b.val + 1 * (j 0).val = 16384 * (wDev w d).val + (1024 * b.val + (j 0).val); omega
theorem oBlk_col (w : Src) (d : Dev nD) (b : Fin 16) (j : I2 1024) : oOff w d b 1 + 1 * (j 1).val = (j 1).val := by
  rw [oOff_eq]; show 0 + 1 * (j 1).val = (j 1).val; omega
/-- The result read at a written block is the block of the rows written there. -/
theorem read_oBlk (w : Src) (d : Dev nD) (b : Fin 16) (j : I2 1024) :
    (oBlk w d b).view.read (Elt F) (O m) j = wide (G m (wDev w d)) (Shape.pair (d := ![16384, 1024]) (brow b (j 0)) (j 1)) :=
  O_at m (wDev w d) _ _ _ (oBlk_row w d b j) (oBlk_col w d b j)

/-- The copy of a staged output block writes the result there. -/
theorem write_o (f : I2 65536 → F .f32) (w : Src) (d : Dev nD) (b : Fin 16) (s : Fin 2) :
    ∀ i ∈ (oBlk w d b).view.set, (oBlk w d b).view.write (Elt F) f ((osSlot s).view.read (Elt F) (stage (wide (G m (wDev w d))) b)) Finset.univ i = O m i :=
  write_on (oBlk w d b).view f (O m) _ fun j =>
    (read_oBlk m w d b j).trans (((read_osSlot _ s j).trans (read_os_stage (wide (G m (wDev w d))) b s (under j))).symm)

end Cert.KernelIdeal.Ring

end
-- ==== Proof.Proto.lean ====
/- The protocol the four devices follow: one round per cell. A barrier cell is paid by both neighbours, each handing
   over the pieces of its landing buffer the payee will write; a send cell returns the share of the rows sent; a receive
   cell delivers the piece landed, holding its sender's rows. -/
module

public import proofs.«01_k».proof.Proof.Geo
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Ring

open Idealize.ShloMosaic Idealize.ShloMosaic.TcCoe Idealize.SL.Sem Cert.KernelIdeal Cert.KernelIdeal.Gen
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

/-! ## The resource algebra: the launch's rounds, the ring's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## Cells -/

/-- A ring cell: the barrier (`none`), send `j` (`false`), receive `j` (`true`). -/
abbrev Kc : Type := Option (Bool × Fin 12)
def csem : Kc → SemLoc sig
  | none => .reg barSem
  | some (false, j) => .dma (sendSem j)
  | some (true, j) => .dma (recvSem j)
/-- Which ring cell a semaphore is, if any. -/
def dec : SemLoc sig → Option Kc
  | .reg _ => some none
  | .dma s => if h : 22 ≤ s.val then some (some (true, ⟨s.val - 22, by have h' : s.val < 34 := s.isLt; omega⟩))
      else if h' : 10 ≤ s.val then some (some (false, ⟨s.val - 10, by omega⟩)) else none

/-- The ring cells are told apart by their semaphores. -/
theorem dec_csem (k : Kc) : dec (csem k) = some k := by
  rcases k with _ | ⟨_ | _, j⟩
  · rfl
  · show dec (.dma (sendSem j)) = _
    unfold dec sendSem
    have : ¬ 22 ≤ 10 + j.val := by omega
    simp [this]
  · show dec (.dma (recvSem j)) = _
    unfold dec recvSem
    simp
theorem dec_local {s : DmaSem sig} (h : s.val < 10) : dec (.dma s) = none := by
  have h1 : ¬ 22 ≤ s.val := by omega
  have h2 : ¬ 10 ≤ s.val := by omega
  simp only [dec, h1, h2, dite_false]
theorem csem_injective : Function.Injective csem := fun a b h => Option.some.inj ((dec_csem a).symm.trans ((congrArg dec h).trans (dec_csem b)))

abbrev kcell (c : Dev nD) (k : Kc) : GSem nD τ sig := ((c : Thread nD τ), csem k)
abbrev barCell (c : Dev nD) : GSem nD τ sig := kcell c none
abbrev sendCell (c : Dev nD) (j : Fin 12) : GSem nD τ sig := kcell c (some (false, j))
abbrev recvCell (c : Dev nD) (j : Fin 12) : GSem nD τ sig := kcell c (some (true, j))

/-- Send `j` goes right (on) for 0–3, 8 and 9, left (back) for 4–7, 10 and 11; its quarter; the slot it lands in; the
    slot a passed-on quarter is read from. -/
def isRight (j : Fin 12) : Bool := decide (j.val < 4) || decide (j.val = 8) || decide (j.val = 9)
def tgt (j : Fin 12) (c : Dev nD) : Dev nD := if isRight j then nxt c else prv c
def payer (j : Fin 12) (c : Dev nD) : Dev nD := if isRight j then prv c else nxt c
def jq (j : Fin 12) : Fin 4 := ⟨j.val % 4, Nat.mod_lt _ (by decide)⟩
def jt (j : Fin 12) : Fin 3 := ⟨j.val / 4, by have := j.isLt; omega⟩
def jp (j : Fin 12) : Fin 3 := if isRight j then 0 else 1

/-- Sending and being sent to are inverse. -/
theorem payer_tgt (j : Fin 12) (c : Dev nD) : payer j (tgt j c) = c := by
  unfold payer tgt; split <;> [exact prv_nxt c; exact nxt_prv c]
theorem tgt_payer (j : Fin 12) (c : Dev nD) : tgt j (payer j c) = c := by
  unfold payer tgt; split <;> [exact nxt_prv c; exact prv_nxt c]
def ring (j : Fin 12) : Dev nD ≃ Dev nD := ⟨tgt j, payer j, payer_tgt j, tgt_payer j⟩

/-- The units every ring transfer moves. -/
abbrev N : ℕ := (rQtr 0 0).view.dmaCredit
theorem N_pos : 0 < N := View.dmaCredit_pos _ (by decide)

/-! ## The pieces handed over -/

variable (m : (ℓ : Loc nD τ sig) → Buf (Elt F) ℓ)

/-- Rows `lo` to `hi` of slot `t` of device `c`'s landing buffer, at share `q`, holding `f`; and of its own bf16 rows. -/
def rPt (c : Dev nD) (t lo hi : ℕ) (q : PosShare TreeShare) (f : I3 3 16384 → F .bf16) : sProp 𝕄 :=
  rM.view.loc (c : Thread nD τ) ↦[rows3 t lo hi]{q} f
def gPt (c : Dev nD) (lo hi : ℕ) (q : PosShare TreeShare) (f : I2 16384 → F .bf16) : sProp 𝕄 :=
  gM.view.loc (c : Thread nD τ) ↦[rows2 lo hi]{q} f
instance rPt_storable (c : Dev nD) (t lo hi) (q) (f : I3 3 16384 → F .bf16) : BI.Storable (upEmb : UEmb _ 𝕄) (rPt c t lo hi q f) := by unfold rPt; infer_instance
instance gPt_storable (c : Dev nD) (lo hi) (q) (f : I2 16384 → F .bf16) : BI.Storable (upEmb : UEmb _ 𝕄) (gPt c lo hi q f) := by unfold gPt; infer_instance

/-- The shares of the own rows: kept for the device's own reads, lent to the send right, lent to the send left. -/
abbrev qK : PosShare TreeShare := fullShare.left
abbrev qR : PosShare TreeShare := fullShare.right.left
abbrev qL : PosShare TreeShare := fullShare.right.right

/-- What a neighbour's barrier unit hands device `c`: from the next device (`true`) its slot 0 and half of its slot 2,
    from the one before its slot 1 and the other half. -/
def barPay (c : Dev nD) (d : Bool) : sProp 𝕄 :=
  if d then iprop((∃ f, rPt (nxt c) 0 0 16384 fullShare f) ∗ ∃ f, rPt (nxt c) 2 0 8192 fullShare f)
  else iprop((∃ f, rPt (prv c) 1 0 16384 fullShare f) ∗ ∃ f, rPt (prv c) 2 8192 16384 fullShare f)
/-- What send `j`'s end returns: the share of the rows it read. -/
def sendPay (c : Dev nD) (j : Fin 12) : sProp 𝕄 :=
  if j.val < 4 then gPt c (4096 * (jq j).val) (4096 * (jq j).val + 4096) qR (G m c)
  else if j.val < 8 then gPt c (4096 * (jq j).val) (4096 * (jq j).val + 4096) qL (G m c)
  else rPt c (jp j).val (4096 * (jq j).val) (4096 * (jq j).val + 4096) fullShare.right (R m c)
/-- What landing `j` delivers. -/
def recvPay (c : Dev nD) (j : Fin 12) : sProp 𝕄 :=
  rPt c (jt j).val (4096 * (jq j).val) (4096 * (jq j).val + 4096) fullShare (R m c)

/-! ## The schedule -/

/-- One round: a barrier cell has two duties of one unit, a send or receive cell one duty of a transfer's units. -/
def Rd : Rounds.Schedule (GSem nD τ sig) Bool 𝕄 where
  duties g r := if r = 0 ∧ g.1.2 = .tc then (match dec g.2 with | none => ∅ | some none => Finset.univ | some (some _) => {false}) else ∅
  unitless _ := False
  amount g _ _ := match dec g.2 with | some (some _) => N | _ => 1
  payload g _ d := match dec g.2 with
    | none => iprop(emp)
    | some none => barPay g.1.1 d
    | some (some (false, j)) => sendPay m g.1.1 j
    | some (some (true, j)) => recvPay m g.1.1 j
  amount_pos g _ _ _ := by
    show 0 < (match dec g.2 with | some (some _) => N | _ => 1)
    split
    · exact N_pos
    · exact Nat.one_pos

instance Rd_payload_storable (g : GSem nD τ sig) (r : ℕ) (d : Bool) : BI.Storable (upEmb : UEmb _ 𝕄) ((Rd m).payload g r d) := by
  show BI.Storable upEmb (match dec g.2 with
    | none => iprop(emp)
    | some none => barPay g.1.1 d
    | some (some (false, j)) => sendPay m g.1.1 j
    | some (some (true, j)) => recvPay m g.1.1 j)
  unfold barPay sendPay recvPay
  (repeat' split) <;> infer_instance

section Sched
variable (c : Dev nD) (j : Fin 12) (x : Bool)

/-- The schedule read at each kind of cell: its duties, their amounts, what they hand over, what a wait takes. -/
theorem duties_bar : (Rd m).duties (barCell c) 0 = Finset.univ := by
  dsimp only [Rd]; rw [if_pos ⟨rfl, rfl⟩, dec_csem]
theorem duties_dma : (Rd m).duties (kcell c (some (x, j))) 0 = {false} := by
  dsimp only [Rd]; rw [if_pos ⟨rfl, rfl⟩, dec_csem]
theorem duties_later (g : GSem nD τ sig) : ∀ r, 1 ≤ r → (Rd m).duties g r = ∅ :=
  fun r hr => by dsimp only [Rd]; rw [if_neg fun h => by omega]
theorem amount_bar (d : Bool) : (Rd m).amount (barCell c) 0 d = 1 := by dsimp only [Rd]; rw [dec_csem]
theorem amount_dma (d : Bool) : (Rd m).amount (kcell c (some (x, j))) 0 d = N := by dsimp only [Rd]; rw [dec_csem]
theorem payload_bar (d : Bool) : (Rd m).payload (barCell c) 0 d = barPay c d := by dsimp only [Rd]; rw [dec_csem]
theorem payload_send (d : Bool) : (Rd m).payload (sendCell c j) 0 d = sendPay m c j := by dsimp only [Rd]; rw [dec_csem]
theorem payload_recv (d : Bool) : (Rd m).payload (recvCell c j) 0 d = recvPay m c j := by dsimp only [Rd]; rw [dec_csem]

theorem expect_bar : (Rd m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (Rd m).expect (kcell c (some (x, j))) 0 = N := by
  unfold Schedule.expect Schedule.amountOf; rw [duties_dma, Finset.sum_singleton, amount_dma]

/-- The payloads of a whole round: both barrier duties', or the one transfer's. -/
theorem rest_bar : bigSep ((Rd m).duties (barCell c) 0 \ ∅) (fun d => (Rd m).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((Rd m).duties (sendCell c j) 0 \ ∅) (fun d => (Rd m).payload (sendCell c j) 0 d) = sendPay m c j := by
  rw [Finset.sdiff_empty, duties_dma, bigSep_singleton, payload_send]
theorem rest_recv : bigSep ((Rd m).duties (recvCell c j) 0 \ ∅) (fun d => (Rd m).payload (recvCell c j) 0 d) = recvPay m c j := by
  rw [Finset.sdiff_empty, duties_dma, bigSep_singleton, payload_recv]
end Sched

/-! ## What a device owes, and the levels -/

/-- The credits device `c` still owes for the sends in a list. -/
def owe (c : Dev nD) : List (Fin 12) → CellTallies nD τ sig Unit
  | [] => 0
  | j :: l => owe c l + tallyAt (recvCell (tgt j c) j) () N
/-- The sends in program order. -/
def order : List (Fin 12) := [0, 4, 1, 5, 2, 6, 3, 7, 8, 9, 10, 11]
/-- At launch: every send, and a unit to each neighbour's barrier. -/
def O₁ (c : Dev nD) : CellTallies nD τ sig Unit := owe c order + tallyAt (barCell (nxt c)) () 1
def O₀ (c : Dev nD) : CellTallies nD τ sig Unit := O₁ c + tallyAt (barCell (prv c)) () 1

def L (g : GSem nD τ sig) : Finset Unit := if g.1.2 = .tc then {()} else ∅
/-- Barrier cells below receive cells, those of rows sent once below those of rows passed on; everything else lowest. -/
def lvK : Option Kc → ℕ
  | some none => 1
  | some (some (true, j)) => if j.val < 8 then 2 else 3
  | _ => 0
def lv (g : GSem nD τ sig) (_ : Unit) : ℕ := lvK (dec g.2)

theorem L_of_ne (g : GSem nD τ sig) (h : g.1.2 ≠ .tc) : L g = ∅ := if_neg h
theorem L_tc (c : Dev nD) (sm : SemLoc sig) : L ((c : Thread nD τ), sm) = {()} := if_pos rfl

/-- A cell owed on is one of the listed sends' receive cells. -/
theorem owe_pos {c : Dev nD} {l : List (Fin 12)} {g : GSem nD τ sig} {u : Unit} (h : 0 < owe c l g u) : ∃ j ∈ l, g = recvCell (tgt j c) j := by
  induction l with
  | nil => exact absurd h (Nat.lt_irrefl 0)
  | cons j l ih =>
    unfold owe at h
    rw [Pi.add_apply, Finsupp.add_apply, tallyAt_apply] at h
    by_cases hg : g = recvCell (tgt j c) j ∧ u = ()
    · exact ⟨j, List.mem_cons_self, hg.1⟩
    · rw [if_neg hg, Nat.add_zero] at h
      obtain ⟨j', hj', e⟩ := ih h
      exact ⟨j', List.mem_cons_of_mem _ hj', e⟩

/-- A device may wait on a cell below every receive cell it owes on. -/
theorem mayWait (c : Dev nD) (sm : SemLoc sig) (l : List (Fin 12)) (h : ∀ j ∈ l, lvK (dec sm) < lvK (some (some (true, j)))) :
    (levAts L lv : sProp 𝕄) ⊢ MayWait (c : Thread nD τ) sm () (owe c l) :=
  MayOwe.of_cut (L := L) (lev := lv) (lvK (dec sm)) (fun p hp => by rw [Finset.mem_singleton.mp hp, L_tc]; exact Finset.mem_singleton_self _)
    (fun g u hg => by obtain ⟨j, -, rfl⟩ := owe_pos hg; rw [L_tc]; exact Finset.mem_singleton_self _)
    (fun p hp => by rw [Finset.mem_singleton.mp hp]; exact Nat.le_refl _)
    (fun g u hg => by
      obtain ⟨j, hj, rfl⟩ := owe_pos hg
      unfold lv; rw [dec_csem]; exact h j hj)
/-- A wait for a copy within the device is below everything owed. -/
theorem mayWait_local (c : Dev nD) {s : DmaSem sig} (hs : s.val < 10) (l : List (Fin 12)) :
    (levAts L lv : sProp 𝕄) ⊢ MayWait (c : Thread nD τ) (.dma s) () (owe c l) :=
  mayWait c _ l fun j _ => by
    rw [dec_local hs]; show 0 < if j.val < 8 then 2 else 3; split <;> decide

/-- Every cell's invariant, and that every cell has reached its round. -/
def Recs (K : Dev nD × Kc → ℕ) : sProp 𝕄 :=
  iprop((bigSep Finset.univ fun ck : Dev nD × Kc => cellInv ER (Rd m) (K ck) (kcell ck.1 ck.2))
    ∗ bigSep Finset.univ fun ck : Dev nD × Kc => reached ER (kcell ck.1 ck.2) 0)
instance Recs_persistent (K : Dev nD × Kc → ℕ) : BI.Persistent (Recs m K) := by unfold Recs; infer_instance

/-- One cell's record out of all. -/
theorem inv_at (K : Dev nD × Kc → ℕ) (c : Dev nD) (k : Kc) : Recs m K ⊢ cellInv ER (Rd m) (K (c, k)) (kcell c k) := by
  unfold Recs
  exact sep_elim_left.trans (bigSep_elim (Φ := fun ck : Dev nD × Kc => cellInv ER (Rd m) (K ck) (kcell ck.1 ck.2)) (Finset.mem_univ (c, k)))
theorem reached_at (K : Dev nD × Kc → ℕ) (c : Dev nD) (k : Kc) : Recs m K ⊢ reached ER (kcell c k) 0 := by
  unfold Recs
  exact sep_elim_right.trans (bigSep_elim (Φ := fun ck : Dev nD × Kc => reached ER (kcell ck.1 ck.2) 0) (Finset.mem_univ (c, k)))

end Cert.KernelIdeal.Ring

end
-- ==== Proof.Local.lean ====
/- The device's own steps: the local copies, started and awaited, and the rounding and widening of a staged block, each
   as what it needs and what it leaves. -/
module

public import proofs.«01_k».proof.Proof.Proto

@[expose] public section

noncomputable section

namespace Cert.KernelIdeal.Ring

open Idealize.ShloMosaic Idealize.ShloMosaic.TcCoe Idealize.SL.Sem Cert.KernelIdeal Cert.KernelIdeal.Gen
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## Steps -/

abbrev 𝒱₀ : Variants := Variants.none
/-- The weakest precondition of a program of device `c`'s TensorCore. -/
abbrev Wp (c : Dev nD) (k : Pg F) (Φ : PUnit → sProp 𝕄) : sProp 𝕄 :=
  wp frame (wpE (defs₀ (F := F)) 𝒱₀ (c : Thread nD τ) none) Set.univ k Φ
/-- Put before any program, `f` turns `P` into `Q`. -/
def Hoare (c : Dev nD) (P Q : sProp 𝕄) (f : Pg F → Pg F) : Prop := ∀ (k : Pg F) (Φ : PUnit → sProp 𝕄), P ⊢ iprop((Q -∗ Wp c k Φ) -∗ Wp c (f k) Φ)

section Rules
variable {c : Dev nD} {P P' Q Q' S : sProp (MT nD τ sig Unit (Elt F) ℕ UU ℕ)} {f g : Pg F → Pg F}

/-- Steps weaken, compose, frame, and are taken under a condition. -/
theorem Hoare.mono (h : Hoare c P Q f) (h1 : P' ⊢ P) (h2 : Q ⊢ Q') : Hoare c P' Q' f := fun k Φ =>
  h1.trans ((h k Φ).trans (wand_mono_left (wand_mono_left h2)))
theorem Hoare.comp (h : Hoare c P Q f) (h' : Hoare c Q S g) : Hoare c P S (fun k => f (g k)) := by
  intro k Φ
  iintro HP Hk
  iapply (h (g k) Φ) $$ HP
  iintro HQ
  iapply (h' k Φ) $$ HQ
  iexact Hk
theorem Hoare.frame (h : Hoare c P Q f) (S : sProp 𝕄) : Hoare c iprop(P ∗ S) iprop(Q ∗ S) f := by
  intro k Φ
  iintro ⟨HP, HS⟩ Hk
  iapply (h k Φ) $$ HP
  iintro HQ
  iapply Hk
  isplitl [HQ] <;> iassumption
theorem Hoare.skip (h : P ⊢ Q) : Hoare c P Q (fun k => k) := by
  intro k Φ
  iintro HP Hk
  iapply Hk
  iapply h $$ HP
theorem Hoare.whenP {p : Prop} [Decidable p] (h : p → Hoare c P Q f) (h' : ¬ p → P ⊢ Q) : Hoare c P Q (whenP p f) := by
  unfold Ring.whenP
  by_cases hp : p
  · simp only [hp, if_true]; exact h hp
  · simp only [hp, if_false]; exact Hoare.skip (h' hp)
/-- A loop whose every pass takes the invariant one on takes it to the end. -/
theorem Hoare.loop {body : ℕ → Pg F → Pg F} (I : ℕ → sProp 𝕄) (N : ℕ) (h : ∀ b, b < N → Hoare c (I b) (I (b + 1)) (body b)) :
    ∀ n b, b + n ≤ N → Hoare c (I b) (I (b + n)) (loop body b n)
  | 0, _, _ => Hoare.skip (BI.Entails.refl _)
  | n + 1, b, hb => by
    have := (h b (by omega)).comp (Hoare.loop I N h n (b + 1) (by omega))
    rw [show b + 1 + n = b + (n + 1) by omega] at this
    exact this
end Rules

/-! ## Local copies -/

section Copies
variable (c : Dev nD) {sp sp' : Space} {s : Shape} {e : EltTy}

/-- A copy started: its two ends and its counter turn into its flight, which delivers `D`. -/
theorem start_step {src : Memref sig .tc sp s e} {dst : Memref sig .tc sp' s e} {sm : DmaSem sig}
    {hsrc : src.view.WordExact} {hdst : dst.view.WordExact} {hsem : DmaTarget.Typed (nD := nD) sp (.dma sm) (DmaTarget.here (p := (.tc : Proc τ)) dst)} {q : PosShare TreeShare}
    {fs : Buf (Elt F) (src.view.loc (c : Thread nD τ))} {fd : Buf (Elt F) (dst.view.loc (c : Thread nD τ))} {D : sProp 𝕄} (hs : 0 < s.numel)
    (hD : iprop((dst.view.loc (c : Thread nD τ) ↦[dst.view.set]{fullShare} (dst.view.write (Elt F) fd (src.view.read (Elt F) fs) Finset.univ))
      ∗ (src.view.loc (c : Thread nD τ) ↦[src.view.set]{q} fs)) ⊢ D) :
    Hoare c iprop((src.view.loc (c : Thread nD τ) ↦[src.view.set]{q} fs) ∗ (dst.view.loc (c : Thread nD τ) ↦[dst.view.set]{fullShare} fd) ∗ semVal ((c : Thread nD τ), .dma sm) 0)
      (Transfers.Flight countersEmb (c : Thread nD τ) (.dma sm) () dst.view.dmaCredit D)
      (fun k => .op (.enqueueDma src (.here dst) (.dma sm) hsrc hdst hsem) fun _ => k) := by
  intro k Φ
  iintro H Hk
  iapply (Transfers.wp_dmaLocal countersEmb 𝒱₀ (c : Thread nD τ) none (Sd := dst.view.set) () dst.view.dmaCredit rfl (View.dmaCredit_pos _ hs) (Finset.Subset.refl _)) $$ H
  iintro HF
  iapply Hk
  iapply (Transfers.Flight_mono countersEmb _ hD) $$ HF

/-- What a device owes, whatever it has waited on, with the cells' levels. -/
def Ow (c : Dev nD) (l : List (Fin 12)) : sProp 𝕄 := iprop((∃ W, owes (c : Thread nD τ) (owe c l) W) ∗ levAts L lv)

/-- A copy awaited: its delivery, and its counter back at zero. -/
theorem wait_step {s' : Shape} {e' : EltTy} {κ' : Kind} {src : Memref sig .tc sp s e} {dst : Memref sig κ' sp' s' e'} {sm : DmaSem sig}
    {hsrc : src.view.WordExact} {hdst : dst.view.WordExact} {D : sProp 𝕄} {N : ℕ} (hN : dst.view.dmaCredit = N) (hs : sm.val < 10) (l : List (Fin 12)) :
    Hoare c iprop(Transfers.Flight countersEmb (c : Thread nD τ) (.dma sm) () N D ∗ Ow c l)
      iprop((D ∗ semVal ((c : Thread nD τ), .dma sm) 0) ∗ Ow c l)
      (fun k => .op (.waitDma2 sm src dst hsrc hdst) fun _ => k) := by
  intro k Φ
  unfold Ow
  iintro ⟨HF, ⟨%W, HO⟩, #Hlev⟩ Hk
  iapply (Transfers.wp_waitLocalO countersEmb 𝒱₀ (c : Thread nD τ) none () hN) $$ [HF HO]
  · isplitl [HF]; · iexact HF
    isplitl [HO]; · iexact HO
    iapply (mayWait_local c hs l); iexact Hlev
  iintro ⟨HD, HV, HO⟩
  iapply Hk
  isplitl [HD HV]
  · isplitl [HD] <;> iassumption
  isplitl [HO]
  · iexists _; iexact HO
  iexact Hlev
end Copies

/-! ## The pieces -/

variable (m : (ℓ : Loc nD τ sig) → Buf (Elt F) ℓ) (c : Dev nD)

/-- Rows of the argument; rows of the result; a slot of each staging buffer. -/
def xPt (lo hi : ℕ) : sProp 𝕄 := xM.view.loc (c : Thread nD τ) ↦[rows2 lo hi]{fullShare} X m c
def oPt (lo hi : ℕ) (f : I2 65536 → F .f32) : sProp 𝕄 := oM.view.loc (c : Thread nD τ) ↦[rows2 lo hi]{fullShare} f
def xsPt (s : Fin 3) (f : I3 3 1024 → F .f32) : sProp 𝕄 := xsM.view.loc (c : Thread nD τ) ↦[rows3 s.val 0 1024]{fullShare} f
def csPt (s : Fin 2) (f : I3 2 1024 → F .bf16) : sProp 𝕄 := csM.view.loc (c : Thread nD τ) ↦[rows3 s.val 0 1024]{fullShare} f
def osPt (s : Fin 2) (f : I3 2 1024 → F .f32) : sProp 𝕄 := osM.view.loc (c : Thread nD τ) ↦[rows3 s.val 0 1024]{fullShare} f

/-- A staging slot at rest: its elements, and its semaphore at zero. -/
def XFree (s : Fin 3) : sProp 𝕄 := iprop((∃ f, xsPt c s f) ∗ semVal ((c : Thread nD τ), .dma (xinSem s)) 0)
def CFree (s : Fin 2) : sProp 𝕄 := iprop((∃ f, csPt c s f) ∗ semVal ((c : Thread nD τ), .dma (cinSem s)) 0)
def OFree (s : Fin 2) : sProp 𝕄 := iprop((∃ f, osPt c s f) ∗ semVal ((c : Thread nD τ), .dma (outSem s)) 0)
/-- Block `b`'s copy in flight: of the argument, of landing slot `t` (read at share `q`), to the result. -/
def XFl (b : Fin 16) (s : Fin 3) : sProp 𝕄 :=
  Transfers.Flight countersEmb (c : Thread nD τ) (.dma (xinSem s)) () (xsSlot s).view.dmaCredit
    iprop(xsPt c s (stage (X m c) b) ∗ xPt m c (1024 * b.val) (1024 * b.val + 1024))
def CFl (t : Fin 3) (q : PosShare TreeShare) (b : Fin 16) (s : Fin 2) : sProp 𝕄 :=
  Transfers.Flight countersEmb (c : Thread nD τ) (.dma (cinSem s)) () (csSlot s).view.dmaCredit
    iprop(csPt c s (stage (G m (tDev t c)) b) ∗ rPt c t.val (1024 * b.val) (1024 * b.val + 1024) q (R m c))
/-- Where a result block of row base `w` starts. -/
abbrev oLo (w : Src) (b : ℕ) : ℕ := 16384 * (wDev w c).val + 1024 * b
def OFl (w : Src) (b : Fin 16) (s : Fin 2) : sProp 𝕄 :=
  Transfers.Flight countersEmb (c : Thread nD τ) (.dma (outSem s)) () (oBlk w c b).view.dmaCredit
    iprop(oPt c (oLo c w b.val) (oLo c w b.val + 1024) (O m) ∗ ∃ f, osPt c s f)

section Eqs
variable {c}
/-- Rows held are what the views of the program touch. -/
theorem xPt_blk (b : Fin 16) : (xPt m c (1024 * b.val) (1024 * b.val + 1024) : sProp 𝕄) = ((xBlk b).view.loc (c : Thread nD τ) ↦[(xBlk b).view.set]{fullShare} X m c) := by
  rw [set_xBlk]; rfl
theorem xsPt_slot (s : Fin 3) (f : I3 3 1024 → F .f32) : (xsPt c s f : sProp 𝕄) = ((xsSlot s).view.loc (c : Thread nD τ) ↦[(xsSlot s).view.set]{fullShare} f) := by
  rw [set_xsSlot]; rfl
theorem csPt_slot (s : Fin 2) (f : I3 2 1024 → F .bf16) : (csPt c s f : sProp 𝕄) = ((csSlot s).view.loc (c : Thread nD τ) ↦[(csSlot s).view.set]{fullShare} f) := by
  rw [set_csSlot]; rfl
theorem osPt_slot (s : Fin 2) (f : I3 2 1024 → F .f32) : (osPt c s f : sProp 𝕄) = ((osSlot s).view.loc (c : Thread nD τ) ↦[(osSlot s).view.set]{fullShare} f) := by
  rw [set_osSlot]; rfl
theorem xsPt_acc (s : Fin 3) (f : I3 3 1024 → F .f32) : (xsPt c s f : sProp 𝕄) = ((xsM.access (xsR s)).loc (c : Thread nD τ) ↦[(xsM.access (xsR s)).set]{fullShare} f) := by
  rw [set_xsR]; rfl
theorem csPt_acc (s : Fin 2) (f : I3 2 1024 → F .bf16) : (csPt c s f : sProp 𝕄) = ((csM.access (stR s)).loc (c : Thread nD τ) ↦[(csM.access (stR s)).set]{fullShare} f) := by
  rw [set_csR]; rfl
theorem osPt_acc (s : Fin 2) (f : I3 2 1024 → F .f32) : (osPt c s f : sProp 𝕄) = ((osM.access (stR s)).loc (c : Thread nD τ) ↦[(osM.access (stR s)).set]{fullShare} f) := by
  rw [set_osR]; rfl
theorem gPt_acc (b : Fin 16) (q : PosShare TreeShare) (f : I2 16384 → F .bf16) :
    (gPt c (1024 * b.val) (1024 * b.val + 1024) q f : sProp 𝕄) = ((gM.access (xR b)).loc (c : Thread nD τ) ↦[(gM.access (xR b)).set]{q} f) := by
  rw [set_gAcc]; rfl
theorem gPt_qtr (k : Fin 4) (q : PosShare TreeShare) (f : I2 16384 → F .bf16) :
    (gPt c (4096 * k.val) (4096 * k.val + 4096) q f : sProp 𝕄) = ((gQtr k).view.loc (c : Thread nD τ) ↦[(gQtr k).view.set]{q} f) := by
  rw [set_gQtr]; rfl
theorem rPt_blk (t : Fin 3) (b : Fin 16) (q : PosShare TreeShare) (f : I3 3 16384 → F .bf16) :
    (rPt c t.val (1024 * b.val) (1024 * b.val + 1024) q f : sProp 𝕄) = ((rBlk t b).view.loc (c : Thread nD τ) ↦[(rBlk t b).view.set]{q} f) := by
  rw [set_rBlk]; rfl
theorem rPt_qtr (t : Fin 3) (k : Fin 4) (q : PosShare TreeShare) (f : I3 3 16384 → F .bf16) :
    (rPt c t.val (4096 * k.val) (4096 * k.val + 4096) q f : sProp 𝕄) = ((rQtr t k).view.loc (c : Thread nD τ) ↦[(rQtr t k).view.set]{q} f) := by
  rw [set_rQtr]; rfl
theorem oPt_blk (w : Src) (b : Fin 16) (f : I2 65536 → F .f32) :
    (oPt c (oLo c w b.val) (oLo c w b.val + 1024) f : sProp 𝕄) = ((oBlk w c b).view.loc (c : Thread nD τ) ↦[(oBlk w c b).view.set]{fullShare} f) := by
  rw [set_oBlk]; rfl
end Eqs

/-! ## The steps -/

theorem numel_blk : 0 < S1024x1024.numel := by decide

/-- The copies within a device: of a block of the argument in, of a block that landed in, of a block of the result out; each started and awaited. -/
theorem xStart_step (b : Fin 16) (s : Fin 3) :
    Hoare c iprop(XFree c s ∗ xPt m c (1024 * b.val) (1024 * b.val + 1024)) (XFl m c b s) (xStart b s) := by
  intro k Φ
  unfold XFree XFl xStart
  iintro ⟨⟨⟨%f, Hs⟩, Hv⟩, Hx⟩ Hk
  iapply (start_step c (src := xBlk b) (dst := xsSlot s) (q := fullShare) (fs := X m c) (fd := f) numel_blk
    (BIClass.sep_mono (Entails.of_eq ((pointsTo_congr (write_xs f (X m c) b s)).trans (xsPt_slot s _).symm)) (Entails.of_eq (xPt_blk m b).symm)) k Φ) $$ [Hs Hv Hx]
  · isplitl [Hx]; · iapply (Entails.of_eq (xPt_blk m b)) $$ Hx
    isplitl [Hs]; · iapply (Entails.of_eq (xsPt_slot s f)) $$ Hs
    iexact Hv
  iexact Hk
theorem xWait_step (b : Fin 16) (s : Fin 3) (l : List (Fin 12)) :
    Hoare c iprop(XFl m c b s ∗ Ow c l)
      iprop(((xsPt c s (stage (X m c) b) ∗ xPt m c (1024 * b.val) (1024 * b.val + 1024)) ∗ semVal ((c : Thread nD τ), .dma (xinSem s)) 0) ∗ Ow c l) (xWait b s) :=
  wait_step c rfl (by show s.val < 10; omega) l

theorem cStart_step (t : Fin 3) (q : PosShare TreeShare) (b : Fin 16) (s : Fin 2) :
    Hoare c iprop(CFree c s ∗ rPt c t.val (1024 * b.val) (1024 * b.val + 1024) q (R m c)) (CFl m c t q b s) (cStart t b s) := by
  intro k Φ
  unfold CFree CFl cStart
  iintro ⟨⟨⟨%f, Hs⟩, Hv⟩, Hx⟩ Hk
  iapply (start_step c (src := rBlk t b) (dst := csSlot s) (q := q) (fs := R m c) (fd := f) numel_blk
    (BIClass.sep_mono (Entails.of_eq ((pointsTo_congr (write_cs m f c t b s)).trans (csPt_slot s _).symm)) (Entails.of_eq (rPt_blk t b q _).symm)) k Φ) $$ [Hs Hv Hx]
  · isplitl [Hx]; · iapply (Entails.of_eq (rPt_blk t b q _)) $$ Hx
    isplitl [Hs]; · iapply (Entails.of_eq (csPt_slot s f)) $$ Hs
    iexact Hv
  iexact Hk
theorem cWait_step (t : Fin 3) (q : PosShare TreeShare) (b : Fin 16) (s : Fin 2) (l : List (Fin 12)) :
    Hoare c iprop(CFl m c t q b s ∗ Ow c l)
      iprop(((csPt c s (stage (G m (tDev t c)) b) ∗ rPt c t.val (1024 * b.val) (1024 * b.val + 1024) q (R m c)) ∗ semVal ((c : Thread nD τ), .dma (cinSem s)) 0) ∗ Ow c l)
      (cWait t b s) :=
  wait_step c rfl (by show 6 + s.val < 10; omega) l

theorem oStart_step (w : Src) (b : Fin 16) (s : Fin 2) (f : I2 65536 → F .f32) :
    Hoare c iprop((osPt c s (stage (wide (G m (wDev w c))) b) ∗ semVal ((c : Thread nD τ), .dma (outSem s)) 0) ∗ oPt c (oLo c w b.val) (oLo c w b.val + 1024) f)
      (OFl m c w b s) (oStart w c b s) := by
  intro k Φ
  unfold OFl oStart
  iintro ⟨⟨Hs, Hv⟩, Ho⟩ Hk
  iapply (start_step c (src := osSlot s) (dst := oBlk w c b) (q := fullShare) (fs := stage (wide (G m (wDev w c))) b) (fd := f) numel_blk
    (BIClass.sep_mono (Entails.of_eq ((pointsTo_congr (write_o m f w c b s)).trans (oPt_blk w b _).symm))
      ((Entails.of_eq (osPt_slot s _).symm).trans (exists_intro (Φ := fun f => osPt c s f) _))) k Φ) $$ [Hs Hv Ho]
  · isplitl [Hs]; · iapply (Entails.of_eq (osPt_slot s _)) $$ Hs
    isplitl [Ho]; · iapply (Entails.of_eq (oPt_blk w b f)) $$ Ho
    iexact Hv
  iexact Hk
theorem oWait_step (w : Src) (b : Fin 16) (s : Fin 2) (l : List (Fin 12)) :
    Hoare c iprop(OFl m c w b s ∗ Ow c l)
      iprop((oPt c (oLo c w b.val) (oLo c w b.val + 1024) (O m) ∗ OFree c s) ∗ Ow c l) (oWait w c b s) :=
  (wait_step c (sm := outSem s) (dst := oBlk w c b) rfl (by show 8 + s.val < 10; omega) l).mono (BI.Entails.refl _) (by
    unfold OFree
    iintro ⟨⟨⟨Ho, Hs⟩, Hv⟩, HO⟩
    isplitl [Ho Hs Hv]
    · isplitl [Ho]; · iexact Ho
      isplitl [Hs] <;> iassumption
    iexact HO)

/-- Rounding a staged block of the argument into the own rows. -/
theorem xStore_step (b : Fin 16) (s : Fin 3) (f : I2 16384 → F .bf16) :
    Hoare c iprop(xsPt c s (stage (X m c) b) ∗ gPt c (1024 * b.val) (1024 * b.val + 1024) fullShare f)
      iprop(xsPt c s (stage (X m c) b) ∗ gPt c (1024 * b.val) (1024 * b.val + 1024) fullShare (G m c)) (xStore b s) := by
  intro k Φ
  unfold xStore
  rw [xsPt_acc, gPt_acc, gPt_acc]
  iintro ⟨Hs, Hg⟩ Hk
  iapply (wp_load_rect 𝒱₀ (c : Thread nD τ) none Set.univ (Finset.Subset.refl _)) $$ Hs
  iintro Hs
  iapply (wp_load_rect 𝒱₀ (c : Thread nD τ) none Set.univ (Finset.Subset.refl _)) $$ Hg
  iintro Hg
  iapply (wp_store 𝒱₀ (c : Thread nD τ) none Set.univ (m := gM) (r := xR b) (Mk := Finset.univ) (S := (gM.access (xR b)).set) (by rw [View.setOn_univ])) $$ Hg
  iintro Hg
  iapply Hk
  isplitl [Hs]; · iexact Hs
  iapply (Entails.of_eq (pointsTo_congr (write_g m f c b s))) $$ Hg
/-- Widening a block of the own rows into an output slot. -/
theorem ownStore_step (b : Fin 16) (s : Fin 2) (q : PosShare TreeShare) (f : I3 2 1024 → F .f32) :
    Hoare c iprop(gPt c (1024 * b.val) (1024 * b.val + 1024) q (G m c) ∗ osPt c s f)
      iprop(gPt c (1024 * b.val) (1024 * b.val + 1024) q (G m c) ∗ osPt c s (stage (wide (G m c)) b)) (ownStore b s) := by
  intro k Φ
  unfold ownStore
  rw [osPt_acc, osPt_acc, gPt_acc]
  iintro ⟨Hg, Hs⟩ Hk
  iapply (wp_load_rect 𝒱₀ (c : Thread nD τ) none Set.univ (Finset.Subset.refl _)) $$ Hg
  iintro Hg
  iapply (wp_load_rect 𝒱₀ (c : Thread nD τ) none Set.univ (Finset.Subset.refl _)) $$ Hs
  iintro Hs
  iapply (wp_store 𝒱₀ (c : Thread nD τ) none Set.univ (m := osM) (r := stR s) (Mk := Finset.univ) (S := (osM.access (stR s)).set) (by rw [View.setOn_univ])) $$ Hs
  iintro Hs
  iapply Hk
  isplitl [Hg]; · iexact Hg
  iapply (Entails.of_eq (pointsTo_congr (write_os_own f (G m c) b s))) $$ Hs
/-- Widening a staged landed block into an output slot. -/
theorem cStore_step (g : I2 16384 → F .bf16) (b : Fin 16) (s : Fin 2) (f : I3 2 1024 → F .f32) :
    Hoare c iprop(csPt c s (stage g b) ∗ osPt c s f) iprop(csPt c s (stage g b) ∗ osPt c s (stage (wide g) b)) (cStore s) := by
  intro k Φ
  unfold cStore
  rw [csPt_acc, osPt_acc, osPt_acc]
  iintro ⟨Hg, Hs⟩ Hk
  iapply (wp_load_rect 𝒱₀ (c : Thread nD τ) none Set.univ (Finset.Subset.refl _)) $$ Hg
  iintro Hg
  iapply (wp_load_rect 𝒱₀ (c : Thread nD τ) none Set.univ (Finset.Subset.refl _)) $$ Hs
  iintro Hs
  iapply (wp_store 𝒱₀ (c : Thread nD τ) none Set.univ (m := osM) (r := stR s) (Mk := Finset.univ) (S := (osM.access (stR s)).set) (by rw [View.setOn_univ])) $$ Hs
  iintro Hs
  iapply Hk
  isplitl [Hg]; · iexact Hg
  iapply (Entails.of_eq (pointsTo_congr (write_os_stage f g b s))) $$ Hs

end Cert.KernelIdeal.Ring

end
-- ==== Proof.Loops.lean ====
/- The three loops, each at a symbolic block: rounding the argument's blocks, writing the device's own rows out, and
   writing landed rows out. An invariant holds the rows done, the rows to do, and the blocks in flight between. -/
module

public import proofs.«01_k».proof.Proof.Local

@[expose] public section

noncomputable section

namespace Cert.KernelIdeal.Ring

open Idealize.ShloMosaic Idealize.ShloMosaic.TcCoe Idealize.SL.Sem Cert.KernelIdeal Cert.KernelIdeal.Gen
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## Splitting rows -/

theorem bk_val {b : ℕ} (h : b < 16) : (bk b).val = b := Nat.mod_eq_of_lt h
/-- A slot comes round again. -/
theorem s3_add (b : ℕ) : s3 (b + 3) = s3 b := Fin.ext (Nat.add_mod_right b 3)
theorem s2_add (b : ℕ) : s2 (b + 2) = s2 b := Fin.ext (Nat.add_mod_right b 2)

/-- An empty range of rows holds nothing. -/
theorem rows2_none {N lo hi : ℕ} (h : hi ≤ lo) : (rows2 lo hi : Finset (I2 N)) = ∅ :=
  Finset.filter_eq_empty_iff.mpr fun i _ hi' => absurd (Nat.lt_of_le_of_lt hi'.1 hi'.2) (Nat.not_lt.mpr h)
theorem rows3_none {S N s lo hi : ℕ} (h : hi ≤ lo) : (rows3 s lo hi : Finset (I3 S N)) = ∅ :=
  Finset.filter_eq_empty_iff.mpr fun i _ hi' => absurd (Nat.lt_of_le_of_lt hi'.2.1 hi'.2.2) (Nat.not_lt.mpr h)

variable (m : (ℓ : Loc nD τ sig) → Buf (Elt F) ℓ) (c : Dev nD)

section Split
variable {m} {c} {lo mid hi : ℕ} (h1 : lo ≤ mid) (h2 : mid ≤ hi)
include h1 h2

/-- Rows held split at any row between. -/
theorem xPt_split : (xPt m c lo hi : sProp 𝕄) ⊣⊢ iprop(xPt m c lo mid ∗ xPt m c mid hi) := by
  unfold xPt; rw [rows2_split h1 h2]; exact pointsTo_union rows2_disj
theorem gPt_split (q : PosShare TreeShare) (f : I2 16384 → F .bf16) : (gPt c lo hi q f : sProp 𝕄) ⊣⊢ iprop(gPt c lo mid q f ∗ gPt c mid hi q f) := by
  unfold gPt; rw [rows2_split h1 h2]; exact pointsTo_union rows2_disj
theorem oPt_split (f : I2 65536 → F .f32) : (oPt c lo hi f : sProp 𝕄) ⊣⊢ iprop(oPt c lo mid f ∗ oPt c mid hi f) := by
  unfold oPt; rw [rows2_split h1 h2]; exact pointsTo_union rows2_disj
theorem rPt_split (t : ℕ) (q : PosShare TreeShare) (f : I3 3 16384 → F .bf16) : (rPt c t lo hi q f : sProp 𝕄) ⊣⊢ iprop(rPt c t lo mid q f ∗ rPt c t mid hi q f) := by
  unfold rPt; rw [rows3_split h1 h2]; exact pointsTo_union rows3_disj
end Split

section None
variable {m} {c} {lo hi : ℕ} (h : hi ≤ lo)
include h
/-- Holding no rows is holding nothing. -/
theorem xPt_none : (xPt m c lo hi : sProp 𝕄) = (iprop(emp) : sProp 𝕄) := by unfold xPt; rw [rows2_none h]; exact pointsTo_empty
theorem gPt_none (q : PosShare TreeShare) (f : I2 16384 → F .bf16) : (gPt c lo hi q f : sProp 𝕄) = (iprop(emp) : sProp 𝕄) := by unfold gPt; rw [rows2_none h]; exact pointsTo_empty
theorem oPt_none (f : I2 65536 → F .f32) : (oPt c lo hi f : sProp 𝕄) = (iprop(emp) : sProp 𝕄) := by unfold oPt; rw [rows2_none h]; exact pointsTo_empty
theorem rPt_none (t : ℕ) (q : PosShare TreeShare) (f : I3 3 16384 → F .bf16) : (rPt c t lo hi q f : sProp 𝕄) = (iprop(emp) : sProp 𝕄) := by unfold rPt; rw [rows3_none h]; exact pointsTo_empty
end None

/-! ## Rounding the argument -/

/-- Everything of one pass but the sends at a quarter's end. -/
def castCore (b : ℕ) (k : Pg F) : Pg F :=
  xWait (bk b) (s3 b) <| xStore (bk b) (s3 b) <| whenP (b + 2 < 16) (xStart (bk (b + 2)) (s3 (b + 2))) k

/-- Block `b`'s slot: its copy in flight, or past the last block at rest. -/
def XS (b : ℕ) : sProp 𝕄 := if b < 16 then XFl m c (bk b) (s3 b) else XFree c (s3 b)
/-- Before block `b`: two copies in flight, a slot at rest, the rows before read back, the rows past the flights to go. -/
def CX (b : ℕ) : sProp 𝕄 :=
  iprop(XS m c b ∗ XS m c (b + 1) ∗ XFree c (s3 (b + 2)) ∗ xPt m c 0 (1024 * b) ∗ xPt m c (1024 * (b + 2)) 16384)

/-- A block of the argument started in. -/
theorem xStart_at {b : ℕ} (hb : b < 16) (s : Fin 3) : Hoare c iprop(XFree c s ∗ xPt m c (1024 * b) (1024 * b + 1024)) (XFl m c (bk b) s) (xStart (bk b) s) := by
  have := xStart_step m c (bk b) s; rwa [bk_val hb] at this

/-- The block two ahead started in, if there is one. -/
theorem xNext (b : ℕ) : Hoare c iprop(XFree c (s3 (b + 2)) ∗ xPt m c (1024 * (b + 2)) 16384)
    iprop(XS m c (b + 2) ∗ xPt m c (1024 * (b + 3)) 16384) (whenP (b + 2 < 16) (xStart (bk (b + 2)) (s3 (b + 2)))) := by
  refine Hoare.whenP (fun h => ?_) fun h => ?_
  · refine ((xStart_at m c h (s3 (b + 2))).frame (xPt m c (1024 * (b + 3)) 16384)).mono ?_ ?_
    · iintro ⟨HF, Hx⟩
      ihave H := (xPt_split (m := m) (c := c) (mid := 1024 * (b + 2) + 1024) (by omega) (by omega)).1 $$ Hx
      icases H with ⟨H1, H2⟩
      rw [show 1024 * (b + 3) = 1024 * (b + 2) + 1024 by omega]
      isplitl [HF H1]
      · isplitl [HF] <;> iassumption
      iexact H2
    · unfold XS; rw [if_pos h]
  · unfold XS; rw [if_neg h, xPt_none (by omega), xPt_none (by omega)]

/-- One pass: block `b` of the own rows comes to hold the argument's block rounded. -/
theorem castCore_step {b : ℕ} (hb : b < 16) (l : List (Fin 12)) (f : I2 16384 → F .bf16) :
    Hoare c iprop(CX m c b ∗ Ow c l ∗ gPt c (1024 * b) (1024 * b + 1024) fullShare f)
      iprop(CX m c (b + 1) ∗ Ow c l ∗ gPt c (1024 * b) (1024 * b + 1024) fullShare (G m c)) (castCore b) := by
  intro k Φ
  unfold castCore CX
  iintro ⟨⟨H0, H1, HF, Hd, Ht⟩, HO, Hg⟩ Hk
  ihave H0 := (Entails.of_eq (show XS m c b = XFl m c (bk b) (s3 b) from if_pos hb)) $$ H0
  iapply (xWait_step m c (bk b) (s3 b) l _ Φ) $$ [H0 HO]
  · isplitl [H0] <;> iassumption
  iintro ⟨⟨⟨Hs, Hx⟩, Hv⟩, HO⟩
  iapply (xStore_step m c (bk b) (s3 b) f _ Φ) $$ [Hs Hg]
  · rw [bk_val hb]; isplitl [Hs] <;> iassumption
  iintro ⟨Hs, Hg⟩
  iapply (xNext m c b k Φ) $$ [HF Ht]
  · isplitl [HF] <;> iassumption
  iintro ⟨H2, Ht⟩
  iapply Hk
  rw [bk_val hb]
  isplitr [HO Hg]
  · isplitl [H1]; · iexact H1
    isplitl [H2]; · iexact H2
    isplitl [Hs Hv]
    · rw [show b + 1 + 2 = b + 3 by omega, s3_add]
      unfold XFree
      isplitl [Hs]; · iexists _; iexact Hs
      iexact Hv
    isplitl [Hd Hx]
    · iapply (xPt_split (m := m) (c := c) (mid := 1024 * b) (by omega) (by omega)).2
      rw [show 1024 * (b + 1) = 1024 * b + 1024 by omega]
      isplitl [Hd] <;> iassumption
    · iexact Ht
  isplitl [HO] <;> iassumption

/-! ## Writing blocks out -/

/-- Rows of the result to be written. -/
def oTodo (lo hi : ℕ) : sProp 𝕄 := iprop(∃ f, oPt c lo hi f)
/-- The output slot block `b` of a loop uses: at rest, or holding the copy of the block two before (of `b0 + …`). -/
def OS (w : Src) (b0 b : ℕ) : sProp 𝕄 := if b < 2 then OFree c (s2 b) else OFl m c w (bk (b0 + (b - 2))) (s2 b)
/-- Before block `b` of `n` from `b0`: the two slots, the rows out, the rows to come. -/
def OI (w : Src) (b0 n b : ℕ) : sProp 𝕄 :=
  iprop(OS m c w b0 b ∗ OS m c w b0 (b + 1) ∗ oPt c (oLo c w b0) (oLo c w (b0 + (b - 2))) (O m) ∗ oTodo c (oLo c w (b0 + b)) (oLo c w (b0 + n)))

/-- Awaiting a block's copy adds its rows to those out. -/
theorem oWait_at (w : Src) {b0 i : ℕ} (hi : i < 16) (h0 : b0 ≤ i) (s : Fin 2) (l : List (Fin 12)) :
    Hoare c iprop((OFl m c w (bk i) s ∗ oPt c (oLo c w b0) (oLo c w i) (O m)) ∗ Ow c l)
      iprop((OFree c s ∗ oPt c (oLo c w b0) (oLo c w (i + 1)) (O m)) ∗ Ow c l) (oWait w c (bk i) s) := by
  have := (oWait_step m c w (bk i) s l).frame (oPt c (oLo c w b0) (oLo c w i) (O m))
  rw [bk_val hi] at this
  refine this.mono ?_ ?_
  · iintro ⟨⟨HF, Ho⟩, HO⟩
    isplitl [HF HO]
    · isplitl [HF] <;> iassumption
    iexact Ho
  · iintro ⟨⟨⟨Hb, HF⟩, HO⟩, Ho⟩
    isplitr [HO]
    · isplitl [HF]; · iexact HF
      iapply (oPt_split (c := c) (mid := oLo c w i) (by unfold oLo; omega) (by unfold oLo; omega) (O m)).2
      rw [show oLo c w (i + 1) = oLo c w i + 1024 by unfold oLo; omega]
      isplitl [Ho] <;> iassumption
    iexact HO
/-- An output slot turned over: its older block awaited, the next started. -/
theorem oTurn (w : Src) {b0 b i : ℕ} (hi : i = b0 + (b - 2)) (h16 : b0 + b < 16) (l : List (Fin 12)) :
    Hoare c iprop((OS m c w b0 b ∗ oPt c (oLo c w b0) (oLo c w (b0 + (b - 2))) (O m)) ∗ Ow c l)
      iprop((OFree c (s2 b) ∗ oPt c (oLo c w b0) (oLo c w (b0 + (b + 1 - 2))) (O m)) ∗ Ow c l) (whenP (2 ≤ b) (oWait w c (bk i) (s2 b))) := by
  subst hi
  refine Hoare.whenP (fun h => ?_) fun h => ?_
  · unfold OS
    rw [if_neg (by omega), show b0 + (b + 1 - 2) = b0 + (b - 2) + 1 by omega]
    exact oWait_at m c w (by omega) (by omega) (s2 b) l
  · unfold OS
    rw [if_pos (by omega), show b + 1 - 2 = b - 2 by omega]
/-- Starting a staged block's copy takes its rows off those to come. -/
theorem oNext (w : Src) {i hi : ℕ} (h : i < 16) (hh : oLo c w (i + 1) ≤ hi) (s : Fin 2) :
    Hoare c iprop((osPt c s (stage (wide (G m (wDev w c))) (bk i)) ∗ semVal ((c : Thread nD τ), .dma (outSem s)) 0) ∗ oTodo c (oLo c w i) hi)
      iprop(OFl m c w (bk i) s ∗ oTodo c (oLo c w (i + 1)) hi) (oStart w c (bk i) s) := by
  intro k Φ
  unfold oTodo
  have e : oLo c w (i + 1) = oLo c w i + 1024 := by unfold oLo; omega
  rw [e] at hh ⊢
  iintro ⟨Hs, ⟨%f, Ho⟩⟩ Hk
  ihave H := (oPt_split (c := c) (mid := oLo c w i + 1024) (by omega) hh f).1 $$ Ho
  icases H with ⟨Hb, Ho⟩
  iapply (oStart_step m c w (bk i) s f k Φ) $$ [Hs Hb]
  · rw [bk_val h]; isplitl [Hs] <;> iassumption
  iintro HF
  iapply Hk
  isplitl [HF]; · iexact HF
  iexists f; iexact Ho

/-- The slots and rows before the first block, -/
theorem OI_start (w : Src) (b0 n : ℕ) : iprop(OFree c 0 ∗ OFree c 1 ∗ oTodo c (oLo c w b0) (oLo c w (b0 + n))) ⊢ OI m c w b0 n 0 := by
  unfold OI OS
  rw [if_pos (by decide), if_pos (by decide), oPt_none (lo := oLo c w b0) (hi := oLo c w (b0 + (0 - 2))) (Nat.le_refl _)]
  iintro ⟨H0, H1, Ho⟩
  isplitl [H0]; · iexact H0
  isplitl [H1]; · iexact H1
  isplitr; · iempintro
  iexact Ho
/-- and the last two copies awaited. -/
theorem oEnd (w : Src) {b0 n i j : ℕ} (hn : 2 ≤ n) (h16 : b0 + n ≤ 16) (he : n % 2 = 0) (hi : i = b0 + (n - 2)) (hj : j = b0 + (n - 1)) (l : List (Fin 12)) :
    Hoare c iprop(OI m c w b0 n n ∗ Ow c l)
      iprop((OFree c 0 ∗ OFree c 1 ∗ oPt c (oLo c w b0) (oLo c w (b0 + n)) (O m)) ∗ Ow c l)
      (fun k => oWait w c (bk i) 0 (oWait w c (bk j) 1 k)) := by
  subst hi hj
  intro k Φ
  unfold OI OS
  rw [if_neg (by omega), if_neg (by omega), show n + 1 - 2 = n - 1 by omega, show s2 n = 0 from Fin.ext he, show s2 (n + 1) = 1 from Fin.ext (by show (n + 1) % 2 = 1; omega)]
  iintro ⟨⟨H0, H1, Ho, -⟩, HO⟩ Hk
  iapply (oWait_at m c w (b0 := b0) (i := b0 + (n - 2)) (by omega) (by omega) 0 l _ Φ) $$ [H0 Ho HO]
  · isplitr [HO]
    · isplitl [H0] <;> iassumption
    iexact HO
  rw [show b0 + (n - 2) + 1 = b0 + (n - 1) by omega]
  iintro ⟨⟨H0, Ho⟩, HO⟩
  iapply (oWait_at m c w (b0 := b0) (i := b0 + (n - 1)) (by omega) (by omega) 1 l k Φ) $$ [H1 Ho HO]
  · isplitr [HO]
    · isplitl [H1] <;> iassumption
    iexact HO
  rw [show b0 + (n - 1) + 1 = b0 + n by omega]
  iintro ⟨⟨H1, Ho⟩, HO⟩
  iapply Hk
  isplitr [HO]
  · isplitl [H0]; · iexact H0
    isplitl [H1] <;> iassumption
  iexact HO

/-! ### The device's own rows -/

/-- One block of rows out of more, and back. -/
theorem gPt_focus {lo hi a b : ℕ} (h1 : lo ≤ a) (h2 : a ≤ b) (h3 : b ≤ hi) (q : PosShare TreeShare) (f : I2 16384 → F .bf16) :
    (gPt c lo hi q f : sProp 𝕄) ⊢ iprop(gPt c a b q f ∗ (gPt c a b q f -∗ gPt c lo hi q f)) := by
  iintro H
  ihave H := (gPt_split (c := c) (mid := a) h1 (h2.trans h3) q f).1 $$ H
  icases H with ⟨H1, H⟩
  ihave H := (gPt_split (c := c) (mid := b) h2 h3 q f).1 $$ H
  icases H with ⟨H2, H3⟩
  isplitl [H2]; · iexact H2
  iintro H2
  iapply (gPt_split (c := c) (mid := a) h1 (h2.trans h3) q f).2
  isplitl [H1]; · iexact H1
  iapply (gPt_split (c := c) (mid := b) h2 h3 q f).2
  isplitl [H2] <;> iassumption

/-- One block of the device's own rows written out. -/
theorem ownIter_step (q : PosShare TreeShare) (l : List (Fin 12)) {b : ℕ} (hb : b < 16) :
    Hoare c iprop(OI m c .own 0 16 b ∗ Ow c l ∗ gPt c 0 16384 q (G m c)) iprop(OI m c .own 0 16 (b + 1) ∗ Ow c l ∗ gPt c 0 16384 q (G m c)) (ownIter c b) := by
  intro k Φ
  unfold ownIter OI
  iintro ⟨⟨H0, H1, Hd, Ht⟩, HO, Hg⟩ Hk
  iapply (oTurn m c .own (b0 := 0) (b := b) (i := b - 2) (by omega) (by omega) l _ Φ) $$ [H0 Hd HO]
  · isplitr [HO]
    · isplitl [H0] <;> iassumption
    iexact HO
  unfold OFree
  iintro ⟨⟨⟨⟨%f, Hs⟩, Hv⟩, Hd⟩, HO⟩
  ihave Hg := (gPt_focus c (a := 1024 * b) (b := 1024 * b + 1024) (by omega) (by omega) (by omega) q (G m c)) $$ Hg
  icases Hg with ⟨Hg, Hback⟩
  iapply (ownStore_step m c (bk b) (s2 b) q f _ Φ) $$ [Hg Hs]
  · rw [bk_val hb]; isplitl [Hg] <;> iassumption
  rw [bk_val hb]
  iintro ⟨Hg, Hs⟩
  ihave Hg := Hback $$ Hg
  rw [show 0 + b = b by omega]
  iapply (oNext m c .own (i := b) (hi := oLo c .own (0 + 16)) hb (by unfold oLo; omega) (s2 b) k Φ) $$ [Hs Hv Ht]
  · isplitr [Ht]
    · isplitl [Hs]; · iexact Hs
      iexact Hv
    iexact Ht
  iintro ⟨HF, Ht⟩
  iapply Hk
  rw [show 0 + (b + 1) = b + 1 by omega]
  isplitr [HO Hg]
  · isplitl [H1]; · iexact H1
    isplitl [HF]
    · unfold OS
      rw [if_neg (by omega), s2_add, show 0 + (b + 1 + 1 - 2) = b by omega]
      iexact HF
    isplitl [Hd] <;> iassumption
  isplitl [HO] <;> iassumption

/-- The device's own rows written out. -/
theorem ownOut_step (q : PosShare TreeShare) (l : List (Fin 12)) :
    Hoare c iprop((OFree c 0 ∗ OFree c 1 ∗ oTodo c (oLo c .own 0) (oLo c .own 16)) ∗ Ow c l ∗ gPt c 0 16384 q (G m c))
      iprop((OFree c 0 ∗ OFree c 1 ∗ oPt c (oLo c .own 0) (oLo c .own 16) (O m)) ∗ Ow c l ∗ gPt c 0 16384 q (G m c)) (ownOut c) := by
  have h := Hoare.loop (fun b => iprop(OI m c .own 0 16 b ∗ Ow c l ∗ gPt c 0 16384 q (G m c))) 16 (fun b hb => ownIter_step m c q l hb) 16 0 (by omega)
  have h' := (oEnd m c .own (b0 := 0) (n := 16) (i := 14) (j := 15) (by omega) (by omega) (by omega) (by omega) (by omega) l).frame (gPt c 0 16384 q (G m c))
  refine (h.comp (h'.mono ?_ (BI.Entails.refl _))).mono ?_ ?_
  · iintro ⟨H, HO, Hg⟩
    isplitl [H HO]
    · isplitl [H] <;> iassumption
    iexact Hg
  · iintro ⟨H, HO, Hg⟩
    isplitl [H]; · iapply (OI_start m c .own 0 16) $$ H
    isplitl [HO] <;> iassumption
  · iintro ⟨⟨H, HO⟩, Hg⟩
    isplitl [H]; · iexact H
    isplitl [HO] <;> iassumption

/-! ### Landed rows -/

/-- Which row base a landing slot's rows go to. -/
theorem wDev_opp : wDev .opp c = tDev 2 c := rfl

/-- Before block `b` of `n` from `b0`: its copy in flight (none past the last), the other slot at rest, the rows read and to be read. -/
def CI (t : Fin 3) (q : PosShare TreeShare) (b0 n b : ℕ) : sProp 𝕄 :=
  iprop((if b < n then CFl m c t q (bk (b0 + b)) (s2 b) else CFree c (s2 b)) ∗ CFree c (s2 (b + 1))
    ∗ rPt c t.val (1024 * b0) (1024 * (b0 + b)) q (R m c) ∗ rPt c t.val (1024 * (b0 + b) + 1024) (1024 * (b0 + n)) q (R m c))

/-- The next block that landed started in, if there is one. -/
theorem cNext (t : Fin 3) (q : PosShare TreeShare) {b0 n b : ℕ} (h16 : b0 + n ≤ 16) :
    Hoare c iprop(CFree c (s2 (b + 1)) ∗ rPt c t.val (1024 * (b0 + b) + 1024) (1024 * (b0 + n)) q (R m c))
      iprop((if b + 1 < n then CFl m c t q (bk (b0 + (b + 1))) (s2 (b + 1)) else CFree c (s2 (b + 1))) ∗ rPt c t.val (1024 * (b0 + (b + 1)) + 1024) (1024 * (b0 + n)) q (R m c))
      (whenP (b + 1 < n) (cStart t (bk (b0 + (b + 1))) (s2 (b + 1)))) := by
  refine Hoare.whenP (fun h => ?_) fun h => ?_
  · rw [if_pos h]
    have := (cStart_step m c t q (bk (b0 + (b + 1))) (s2 (b + 1))).frame (rPt c t.val (1024 * (b0 + (b + 1)) + 1024) (1024 * (b0 + n)) q (R m c))
    rw [bk_val (by omega)] at this
    refine this.mono ?_ (BI.Entails.refl _)
    iintro ⟨HF, Hr⟩
    ihave H := (rPt_split (c := c) (mid := 1024 * (b0 + (b + 1)) + 1024) (by omega) (by omega) t.val q (R m c)).1 $$ Hr
    icases H with ⟨H1, H2⟩
    rw [show 1024 * (b0 + b) + 1024 = 1024 * (b0 + (b + 1)) by omega]
    isplitl [HF H1]
    · isplitl [HF] <;> iassumption
    iexact H2
  · rw [if_neg h, rPt_none (by omega), rPt_none (by omega)]

/-- One block that landed written out. -/
theorem convIter_step {w : Src} {t : Fin 3} (hw : wDev w c = tDev t c) (q : PosShare TreeShare) (l : List (Fin 12)) {b0 n b : ℕ} (hb : b < n) (h16 : b0 + n ≤ 16) :
    Hoare c iprop(CI m c t q b0 n b ∗ OI m c w b0 n b ∗ Ow c l) iprop(CI m c t q b0 n (b + 1) ∗ OI m c w b0 n (b + 1) ∗ Ow c l) (convIter w t c b0 n b) := by
  intro k Φ
  unfold convIter OI CI
  rw [if_pos hb]
  iintro ⟨⟨C0, C1, Rd, Rt⟩, ⟨H0, H1, Hd, Ht⟩, HO⟩ Hk
  iapply (cNext m c t q (b0 := b0) (n := n) (b := b) h16 _ Φ) $$ [C1 Rt]
  · isplitl [C1] <;> iassumption
  iintro ⟨C1, Rt⟩
  iapply (cWait_step m c t q (bk (b0 + b)) (s2 b) l _ Φ) $$ [C0 HO]
  · isplitl [C0] <;> iassumption
  rw [bk_val (show b0 + b < 16 by omega)]
  iintro ⟨⟨⟨Cs, Rb⟩, Cv⟩, HO⟩
  iapply (oTurn m c w (b0 := b0) (b := b) rfl (by omega) l _ Φ) $$ [H0 Hd HO]
  · isplitr [HO]
    · isplitl [H0] <;> iassumption
    iexact HO
  unfold OFree
  iintro ⟨⟨⟨⟨%f, Hs⟩, Hv⟩, Hd⟩, HO⟩
  iapply (cStore_step c (G m (tDev t c)) (bk (b0 + b)) (s2 b) f _ Φ) $$ [Cs Hs]
  · isplitl [Cs] <;> iassumption
  iintro ⟨Cs, Hs⟩
  iapply (oNext m c w (i := b0 + b) (hi := oLo c w (b0 + n)) (by omega) (by unfold oLo; omega) (s2 b) k Φ) $$ [Hs Hv Ht]
  · rw [hw]
    isplitr [Ht]
    · isplitl [Hs] <;> iassumption
    iexact Ht
  iintro ⟨HF, Ht⟩
  iapply Hk
  isplitl [C1 Cs Cv Rd Rb Rt]
  · isplitl [C1]; · iexact C1
    isplitl [Cs Cv]
    · rw [show b + 1 + 1 = b + 2 by omega, s2_add]
      unfold CFree
      isplitl [Cs]; · iexists _; iexact Cs
      iexact Cv
    isplitl [Rd Rb]
    · iapply (rPt_split (c := c) (mid := 1024 * (b0 + b)) (by omega) (by omega) t.val q (R m c)).2
      rw [show 1024 * (b0 + (b + 1)) = 1024 * (b0 + b) + 1024 by omega]
      isplitl [Rd] <;> iassumption
    iexact Rt
  isplitr [HO]
  · isplitl [H1]; · iexact H1
    isplitl [HF]
    · unfold OS
      rw [if_neg (by omega), show b + 1 + 1 = b + 2 by omega, s2_add, show b + 2 - 2 = b by omega]
      iexact HF
    isplitl [Hd]; · iexact Hd
    rw [show b0 + (b + 1) = b0 + b + 1 by omega]; iexact Ht
  iexact HO

/-- What a stretch of blocks written out needs beside the rows read: every staging slot at rest. -/
def Idle : sProp 𝕄 := iprop((CFree c 0 ∗ CFree c 1) ∗ OFree c 0 ∗ OFree c 1)

/-- Blocks `b0` to `b0 + n` of a landing slot written out. -/
theorem conv_step {w : Src} {t : Fin 3} (hw : wDev w c = tDev t c) (q : PosShare TreeShare) (l : List (Fin 12)) {b0 n : ℕ} (hn : 2 ≤ n) (he : n % 2 = 0) (h16 : b0 + n ≤ 16) :
    Hoare c iprop(Idle c ∗ rPt c t.val (1024 * b0) (1024 * (b0 + n)) q (R m c) ∗ oTodo c (oLo c w b0) (oLo c w (b0 + n)) ∗ Ow c l)
      iprop(Idle c ∗ rPt c t.val (1024 * b0) (1024 * (b0 + n)) q (R m c) ∗ oPt c (oLo c w b0) (oLo c w (b0 + n)) (O m) ∗ Ow c l) (conv w t c b0 n) := by
  have hloop := Hoare.loop (fun b => iprop(CI m c t q b0 n b ∗ OI m c w b0 n b ∗ Ow c l)) n (fun b hb => convIter_step m c hw q l hb h16) n 0 (by omega)
  have hs := cStart_step m c t q (bk b0) 0
  rw [bk_val (by omega)] at hs
  intro k Φ
  unfold conv Idle
  iintro ⟨⟨⟨C0, C1⟩, H0, H1⟩, Hr, Ho, HO⟩ Hk
  ihave H := (rPt_split (c := c) (mid := 1024 * b0 + 1024) (by omega) (by omega) t.val q (R m c)).1 $$ Hr
  icases H with ⟨Rb, Rt⟩
  iapply (hs _ Φ) $$ [C0 Rb]
  · isplitl [C0] <;> iassumption
  iintro C0
  iapply (hloop _ Φ) $$ [C0 C1 Rt H0 H1 Ho HO]
  · isplitl [C0 C1 Rt]
    · unfold CI
      rw [if_pos (by omega), rPt_none (lo := 1024 * b0) (hi := 1024 * (b0 + 0)) (by omega)]
      isplitl [C0]; · iexact C0
      isplitl [C1]; · iexact C1
      isplitr; · iempintro
      iexact Rt
    isplitl [H0 H1 Ho]
    · iapply (OI_start m c w b0 n)
      isplitl [H0]; · iexact H0
      isplitl [H1] <;> iassumption
    iexact HO
  rw [show 0 + n = n by omega]
  unfold CI
  rw [if_neg (by omega), show s2 n = 0 from Fin.ext he, show s2 (n + 1) = 1 from Fin.ext (by show (n + 1) % 2 = 1; omega)]
  iintro ⟨⟨C0, C1, Hr, -⟩, HI, HO⟩
  iapply (oEnd m c w (b0 := b0) (n := n) hn h16 he rfl rfl l k Φ) $$ [HI HO]
  · isplitl [HI] <;> iassumption
  iintro ⟨⟨H0, H1, Ho⟩, HO⟩
  iapply Hk
  isplitl [C0 C1 H0 H1]
  · isplitl [C0 C1]
    · isplitl [C0] <;> iassumption
    isplitl [H0] <;> iassumption
  isplitl [Hr]; · iexact Hr
  isplitl [Ho] <;> iassumption

end Cert.KernelIdeal.Ring

end
-- ==== Proof.Remote.lean ====
/- The steps between devices: the barrier, the sends, and the waits for landings and for the sends' own ends. -/
module

public import proofs.«01_k».proof.Proof.Loops

@[expose] public section

noncomputable section

namespace Cert.KernelIdeal.Ring

open Idealize.ShloMosaic Idealize.ShloMosaic.TcCoe Idealize.SL.Sem Cert.KernelIdeal Cert.KernelIdeal.Gen
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ) (c : Dev nD) (K : Dev nD × Kc → ℕ)

/-- Any contents on rows of a landing slot. -/
def rAny (d : Dev nD) (t lo hi : ℕ) : sProp 𝕄 := iprop(∃ f, rPt d t lo hi fullShare f)
/-- Landing rows at some contents split. -/
theorem rAny_split {d : Dev nD} {t lo mid hi : ℕ} (h1 : lo ≤ mid) (h2 : mid ≤ hi) : (rAny d t lo hi : sProp 𝕄) ⊢ iprop(rAny d t lo mid ∗ rAny d t mid hi) := by
  unfold rAny
  iintro ⟨%f, H⟩
  ihave H := (rPt_split (c := d) h1 h2 t fullShare f).1 $$ H
  icases H with ⟨H1, H2⟩
  isplitl [H1] <;> iexists f <;> iassumption

/-- What send `j` needs beside its source rows: its two cells' duties, and the rows it lands in. -/
def Toks (j : Fin 12) : sProp 𝕄 := iprop(dutyTok ER (sendCell c j) 0 false ∗ dutyTok ER (recvCell (tgt j c) j) 0 false)
def Dst (j : Fin 12) : sProp 𝕄 := rAny (tgt j c) (jt j).val (4096 * (jq j).val) (4096 * (jq j).val + 4096)
/-- What the wait for send `j`'s end, and for landing `j`, needs: the transfer's credit, and the cell's position. -/
def SCred (j : Fin 12) : sProp 𝕄 := cred (tallyAt (sendCell c j) () N)
def SPos (j : Fin 12) : sProp 𝕄 := atPos ER (sendCell c j) 0 ∅ 0
def RIn (j : Fin 12) : sProp 𝕄 := iprop(cred (tallyAt (recvCell c j) () N) ∗ atPos ER (recvCell c j) 0 ∅ 0)
/-- A ring cell closed: its counter at zero. -/
def Zero (k : Kc) : sProp 𝕄 := semVal (kcell c k) 0

/-- Send `j`: the source rows and the credit owed go, the credit for its end comes. -/
theorem send_step (j : Fin 12) (l : List (Fin 12)) {sp : Space} {e : Dev nD} (he : e = tgt j c)
    {src : Memref sig .tc sp S4096x1024 .bf16} {dst : Memref sig .tc .hbm S4096x1024 .bf16}
    {hsc : dst.view.ref.isScScratch = false} {hsrc : src.view.WordExact} {hdst : dst.view.WordExact}
    {hsem : DmaTarget.Typed (nD := nD) sp (.dma (recvSem j)) (DmaTarget.remote (p := (.tc : Proc τ)) (Dev.tc e : Thread nD τ) dst (.dma (sendSem j)) hsc)}
    {q : PosShare TreeShare} {fs : Buf (Elt F) (src.view.loc (c : Thread nD τ))}
    (hN : dst.view.dmaCredit = N)
    (hS : sendPay m c j = (src.view.loc (c : Thread nD τ) ↦[src.view.set]{q} fs))
    (hD : ∀ f : I3 3 16384 → F .bf16, ∃ fd : Buf (Elt F) (dst.view.loc (tgt j c : Thread nD τ)),
      And (rPt (tgt j c) (jt j).val (4096 * (jq j).val) (4096 * (jq j).val + 4096) fullShare f = (dst.view.loc (tgt j c : Thread nD τ) ↦[dst.view.set]{fullShare} fd))
      ((dst.view.loc (tgt j c : Thread nD τ) ↦[dst.view.set]{fullShare} (dst.view.write (Elt F) fd (src.view.read (Elt F) fs) Finset.univ)) ⊢ recvPay m (tgt j c) j)) :
    Hoare c iprop(Recs m K ∗ sendPay m c j ∗ (Toks c j ∗ Dst c j) ∗ Ow c (j :: l)) iprop(SCred c j ∗ Ow c l)
      (fun k => .op (.enqueueDma src (.remote (Dev.tc e) dst (.dma (sendSem j)) hsc) (.dma (recvSem j)) hsrc hdst hsem) fun _ => k) := by
  subst he
  intro k Φ
  unfold Toks Dst rAny Ow SCred
  iintro ⟨#HR, Hs, ⟨⟨HtS, HtV⟩, ⟨%f, Hd⟩⟩, ⟨%W, HO⟩, #Hlev⟩ Hk
  obtain ⟨fd, e1, e2⟩ := hD f
  iapply (Rounds.wp_send_pointsTo 𝒱₀ ER (Rd m) (c : Thread nD τ) none (κ₁ := K (c, some (false, j))) (κ₂ := K (tgt j c, some (true, j)))
    (r₁ := 0) (r₂ := 0) (d₁ := false) (d₂ := false) (c' := (tgt j c : Thread nD τ)) (fd := fd) (src := src) (dst := dst) (sS := .dma (sendSem j)) (sem := .dma (recvSem j))
    (show false ∈ (Rd m).duties (sendCell c j) 0 by rw [duties_dma]; exact Finset.mem_singleton_self _) (show false ∈ (Rd m).duties (recvCell (tgt j c) j) 0 by rw [duties_dma]; exact Finset.mem_singleton_self _)
    () () N hN (amount_dma m c j false false) (amount_dma m (tgt j c) j true false) (owe c l) rfl (W := W)
    (Entails.of_eq (hS.symm.trans (show sendPay m c j = (Rd m).payload ((c : Thread nD τ), SemLoc.dma (sendSem j)) 0 false from (payload_send m c j false).symm)))
    (e2.trans (Entails.of_eq (show recvPay m (tgt j c) j = (Rd m).payload ((tgt j c : Thread nD τ), SemLoc.dma (recvSem j)) 0 false from (payload_recv m (tgt j c) j false).symm)))) $$ [Hs HtS HtV Hd HO]
  · isplitr; · iapply (inv_at m K c (some (false, j))); iexact HR
    isplitr; · iapply (inv_at m K (tgt j c) (some (true, j))); iexact HR
    isplitl [Hs]; · iapply (Entails.of_eq hS) $$ Hs
    isplitl [Hd]; · iapply (Entails.of_eq e1) $$ Hd
    isplitl [HO]; · iexact HO
    isplitl [HtS]; · iexact HtS
    isplitr; · iapply (reached_at m K c (some (false, j))); iexact HR
    isplitl [HtV]; · iexact HtV
    iapply (reached_at m K (tgt j c) (some (true, j))); iexact HR
  iintro ⟨Hc, HO⟩
  iapply Hk
  isplitl [Hc]; · iexact Hc
  isplitl [HO]
  · iexists _; iexact HO
  iexact Hlev

/-- Quarter `q` of the own rows sent right, -/
theorem sendR_step (q : Fin 4) (l : List (Fin 12)) {j : Fin 12} (hj : j = Fin.castLE (by decide) q) :
    Hoare c iprop(Recs m K ∗ sendPay m c j ∗ (Toks c j ∗ Dst c j) ∗ Ow c (j :: l)) iprop(SCred c j ∗ Ow c l) (sendR c q) := by
  subst hj
  have hlt : (Fin.castLE (by decide : 4 ≤ 12) q).val < 4 := q.isLt
  have eq : (jq (Fin.castLE (by decide : 4 ≤ 12) q)).val = q.val := Nat.mod_eq_of_lt q.isLt
  have et : (jt (Fin.castLE (by decide : 4 ≤ 12) q)).val = (0 : Fin 3).val := Nat.div_eq_of_lt q.isLt
  have eg : tgt (Fin.castLE (by decide : 4 ≤ 12) q) c = nxt c := if_pos (by unfold isRight; simp)
  refine send_step m c K _ l (src := gQtr q) (dst := rQtr 0 q) ((rightDev_eq c).trans eg.symm) (q := qR) (fs := G m c) rfl ?_ fun f => ⟨f, ?_, Entails.of_eq ?_⟩
  · unfold sendPay; rw [if_pos hlt, eq]; exact gPt_qtr q qR (G m c)
  · rw [eq, et]; exact rPt_qtr 0 q fullShare f
  · unfold recvPay; rw [eq, et, eg]
    exact (pointsTo_congr (write_r_own m f c (nxt c) 0 q (prv_nxt c))).trans (rPt_qtr 0 q fullShare (R m (nxt c))).symm
/-- and left; -/
theorem sendL_step (q : Fin 4) (l : List (Fin 12)) {j : Fin 12} (hj : j = Fin.natAdd 4 (Fin.castLE (by decide) q : Fin 8)) :
    Hoare c iprop(Recs m K ∗ sendPay m c j ∗ (Toks c j ∗ Dst c j) ∗ Ow c (j :: l)) iprop(SCred c j ∗ Ow c l) (sendL c q) := by
  have hv : j.val = 4 + q.val := by rw [hj]; rfl
  have eq : (jq j).val = q.val := by show j.val % 4 = q.val; omega
  have et : (jt j).val = (1 : Fin 3).val := by show j.val / 4 = 1; omega
  have eg : tgt j c = prv c := if_neg (by unfold isRight; simp; omega)
  subst hj
  refine send_step m c K _ l (src := gQtr q) (dst := rQtr 1 q) ((leftDev_eq c).trans eg.symm) (q := qL) (fs := G m c) rfl ?_ fun f => ⟨f, ?_, Entails.of_eq ?_⟩
  · unfold sendPay; rw [if_neg (by omega), if_pos (by omega), eq]; exact gPt_qtr q qL (G m c)
  · rw [eq, et]; exact rPt_qtr 1 q fullShare f
  · unfold recvPay; rw [eq, et, eg]
    exact (pointsTo_congr (write_r_own m f c (prv c) 1 q (nxt_prv c))).trans (rPt_qtr 1 q fullShare (R m (prv c))).symm
/-- quarter `q` of the rows landed passed on. -/
theorem passOn_step (q : Fin 4) (t : Fin 3) (e : Dev nD) (l : List (Fin 12)) {j : Fin 12} (hj : j = Fin.natAdd 8 q) (he : e = tgt j c) (ht : jp j = t)
    (hd : tDev 2 e = tDev t c) :
    Hoare c iprop(Recs m K ∗ sendPay m c j ∗ (Toks c j ∗ Dst c j) ∗ Ow c (j :: l)) iprop(SCred c j ∗ Ow c l) (passOn e t q) := by
  have hv : j.val = 8 + q.val := by rw [hj]; rfl
  have eq : (jq j).val = q.val := by show j.val % 4 = q.val; omega
  have et : (jt j).val = (2 : Fin 3).val := by show j.val / 4 = 2; omega
  subst hj
  refine send_step m c K _ l (src := rQtr t q) (dst := rQtr 2 q) he (q := fullShare.right) (fs := R m c) rfl ?_ fun f => ⟨f, ?_, Entails.of_eq ?_⟩
  · unfold sendPay; rw [if_neg (by omega), if_neg (by omega), eq, ht]; exact rPt_qtr t q fullShare.right (R m c)
  · rw [eq, et]; exact rPt_qtr 2 q fullShare f
  · unfold recvPay; rw [eq, et, ← he]
    exact (pointsTo_congr (write_r_pass m f c e t q hd)).trans (rPt_qtr 2 q fullShare (R m e)).symm

/-- Landing `j` awaited: its rows, and its cell closed; -/
theorem recv_step (j : Fin 12) (l : List (Fin 12)) (hl : ∀ i ∈ l, lvK (some (some (true, j))) < lvK (some (some (true, i))))
    {sp sp' : Space} {s s' : Shape} {e e' : EltTy} {src : Memref sig .tc sp s e} {dst : Memref sig .tc sp' s' e'} {hsrc : src.view.WordExact} {hdst : dst.view.WordExact}
    (hN : dst.view.dmaCredit = N) :
    Hoare c iprop(Recs m K ∗ RIn c j ∗ Ow c l) iprop(recvPay m c j ∗ Zero c (some (true, j)) ∗ Ow c l)
      (fun k => .op (.waitDma2 (recvSem j) src dst hsrc hdst) fun _ => k) := by
  intro k Φ
  unfold RIn Ow Zero
  iintro ⟨#HR, ⟨Hc, Hat⟩, ⟨%W, HO⟩, #Hlev⟩ Hk
  iapply (Rounds.wp_wait_rest_token 𝒱₀ ER (Rd m) (c : Thread nD τ) none (κ := K (c, some (true, j))) (sm := .dma (recvSem j)) (k' := dst.view.dmaCredit)
      (wpE_waitDma2_eq 𝒱₀ (c : Thread nD τ) none Set.univ) (Set.mem_univ _) () (O := owe c l) (W := W) (R := 0) (m := 0) (T := ∅)
      (by rw [Nat.zero_add, hN]; exact (expect_dma m c j true).symm)) $$ [Hc HO Hat]
  · isplitr; · iapply (inv_at m K c (some (true, j))); iexact HR
    isplitl [Hc]; · rw [hN]; iexact Hc
    isplitl [HO]; · iexact HO
    isplitr
    · iapply (mayWait c (.dma (recvSem j)) l (by rw [show dec (SemLoc.dma (recvSem j)) = some (some (true, j)) from dec_csem (some (true, j))]; exact hl)); iexact Hlev
    iexact Hat
  iintro ⟨HO, Hat, -, Hpay⟩
  ihave Hp := (Entails.of_eq (show bigSep ((Rd m).duties ((c : Thread nD τ), SemLoc.dma (recvSem j)) 0 \ ∅) (fun d => (Rd m).payload ((c : Thread nD τ), SemLoc.dma (recvSem j)) 0 d) = _ from rest_recv m c j)) $$ Hpay
  imod (Rounds.cell_close ER (Rd m) (Set.mem_univ (K (c, some (true, j)))) (fun h => h) (R := 0 + 1) (duties_later m (recvCell c j))) $$ [Hat] with Hz
  · isplitr; · iapply (inv_at m K c (some (true, j))); iexact HR
    iexact Hat
  iapply Hk
  isplitl [Hp]; · iexact Hp
  isplitl [Hz]; · iexact Hz
  isplitl [HO]
  · iexists _; iexact HO
  iexact Hlev
/-- and send `j`'s end: the share of the rows sent back, and its cell closed. -/
theorem sent_step (j : Fin 12)
    {sp sp' : Space} {s s' : Shape} {e e' : EltTy} {src : Memref sig .tc sp s e} {dst : Memref sig .tc sp' s' e'} {hsrc : src.view.WordExact} {hdst : dst.view.WordExact}
    (hN : dst.view.dmaCredit = N) :
    Hoare c iprop(Recs m K ∗ (SCred c j ∗ SPos c j) ∗ Ow c []) iprop(sendPay m c j ∗ Zero c (some (false, j)) ∗ Ow c [])
      (fun k => .op (.waitDma2 (sendSem j) src dst hsrc hdst) fun _ => k) := by
  intro k Φ
  unfold SCred SPos Ow Zero
  iintro ⟨#HR, ⟨Hc, Hat⟩, ⟨%W, HO⟩, #Hlev⟩ Hk
  iapply (Rounds.wp_wait_rest_token 𝒱₀ ER (Rd m) (c : Thread nD τ) none (κ := K (c, some (false, j))) (sm := .dma (sendSem j)) (k' := dst.view.dmaCredit)
      (wpE_waitDma2_eq 𝒱₀ (c : Thread nD τ) none Set.univ) (Set.mem_univ _) () (O := owe c []) (W := W) (R := 0) (m := 0) (T := ∅)
      (by rw [Nat.zero_add, hN]; exact (expect_dma m c j false).symm)) $$ [Hc HO Hat]
  · isplitr; · iapply (inv_at m K c (some (false, j))); iexact HR
    isplitl [Hc]; · rw [hN]; iexact Hc
    isplitl [HO]; · iexact HO
    isplitr; · iapply (mayWait c (.dma (sendSem j)) [] (fun _ h => absurd h List.not_mem_nil)); iexact Hlev
    iexact Hat
  iintro ⟨HO, Hat, -, Hpay⟩
  ihave Hp := (Entails.of_eq (show bigSep ((Rd m).duties ((c : Thread nD τ), SemLoc.dma (sendSem j)) 0 \ ∅) (fun d => (Rd m).payload ((c : Thread nD τ), SemLoc.dma (sendSem j)) 0 d) = _ from rest_send m c j)) $$ Hpay
  imod (Rounds.cell_close ER (Rd m) (Set.mem_univ (K (c, some (false, j)))) (fun h => h) (R := 0 + 1) (duties_later m (sendCell c j))) $$ [Hat] with Hz
  · isplitr; · iapply (inv_at m K c (some (false, j))); iexact HR
    iexact Hat
  iapply Hk
  isplitl [Hp]; · iexact Hp
  isplitl [Hz]; · iexact Hz
  isplitl [HO]
  · iexists _; iexact HO
  iexact Hlev

/-! ## The barrier -/

theorem barrier_eq (d : Dev nD) (k : Pg F) : barrier d k =
    .op (.semSignal (leftDev d : Thread nD τ) barSem 1) fun _ => .op (.semSignal (rightDev d : Thread nD τ) barSem 1) fun _ => .op (.semWait barSem 2) fun _ => k := rfl

/-- What the barrier needs: a duty on each neighbour's barrier, the pieces handed over, the units awaited, and the cell's position. -/
def BarRes : sProp 𝕄 :=
  iprop((dutyTok ER (barCell (prv c)) 0 true ∗ barPay (prv c) true) ∗ (dutyTok ER (barCell (nxt c)) 0 false ∗ barPay (nxt c) false)
    ∗ cred (tallyAt (barCell c) () 2) ∗ atPos ER (barCell c) 0 ∅ 0)

/-- Past the barrier a device holds the pieces of its neighbours' landing buffers it will write. -/
theorem barrier_step :
    Hoare c iprop(Recs m K ∗ BarRes c ∗ (∃ W, owes (c : Thread nD τ) (O₀ c) W) ∗ levAts L lv)
      iprop((barPay c false ∗ barPay c true) ∗ Zero c none ∗ Ow c order) (barrier c) := by
  intro k Φ
  rw [barrier_eq, leftDev_eq, rightDev_eq]
  unfold BarRes Ow Zero
  iintro ⟨#HR, ⟨⟨Ht1, Hp1⟩, ⟨Ht2, Hp2⟩, Hc, Hat⟩, ⟨%W, HO⟩, #Hlev⟩ Hk
  iapply (Rounds.wp_signal 𝒱₀ ER (Rd m) (c : Thread nD τ) none (dst := (prv c : Thread nD τ)) (sem := barSem) (κ := K (prv c, none)) (r := 0) (d := true)
      (by have := duties_bar m (prv c); exact this ▸ Finset.mem_univ _) (amount_bar m (prv c) true) () (O₁ c) rfl) $$ [HO Ht1 Hp1]
  · isplitr; · iapply (inv_at m K (prv c) none); iexact HR
    isplitl [HO]; · iexact HO
    isplitl [Ht1]; · iexact Ht1
    isplitl [Hp1]; · iapply (Entails.of_eq (show barPay (prv c) true = (Rd m).payload ((prv c : Thread nD τ), SemLoc.reg barSem) 0 true from (payload_bar m (prv c) true).symm)) $$ Hp1
    iapply (reached_at m K (prv c) none); iexact HR
  iintro HO
  iapply (Rounds.wp_signal 𝒱₀ ER (Rd m) (c : Thread nD τ) none (dst := (nxt c : Thread nD τ)) (sem := barSem) (κ := K (nxt c, none)) (r := 0) (d := false)
      (by have := duties_bar m (nxt c); exact this ▸ Finset.mem_univ _) (amount_bar m (nxt c) false) () (owe c order) rfl) $$ [HO Ht2 Hp2]
  · isplitr; · iapply (inv_at m K (nxt c) none); iexact HR
    isplitl [HO]; · iexact HO
    isplitl [Ht2]; · iexact Ht2
    isplitl [Hp2]; · iapply (Entails.of_eq (show barPay (nxt c) false = (Rd m).payload ((nxt c : Thread nD τ), SemLoc.reg barSem) 0 false from (payload_bar m (nxt c) false).symm)) $$ Hp2
    iapply (reached_at m K (nxt c) none); iexact HR
  iintro HO
  iapply (Rounds.wp_wait_rest_token 𝒱₀ ER (Rd m) (c : Thread nD τ) none (κ := K (c, none)) (sm := .reg barSem) (k' := 2)
      (wpE_semWait_eq 𝒱₀ (c : Thread nD τ) none Set.univ) (Set.mem_univ _) () (O := owe c order) (W := W) (R := 0) (m := 0) (T := ∅)
      (by rw [Nat.zero_add]; exact (expect_bar m c).symm)) $$ [Hc HO Hat]
  · isplitr; · iapply (inv_at m K c none); iexact HR
    isplitl [Hc]; · iexact Hc
    isplitl [HO]; · iexact HO
    isplitr; · iapply (mayWait c (.reg barSem) order (by decide)); iexact Hlev
    iexact Hat
  iintro ⟨HO, Hat, -, Hpay⟩
  ihave Hp := (Entails.of_eq (show bigSep ((Rd m).duties ((c : Thread nD τ), SemLoc.reg barSem) 0 \ ∅) (fun d => (Rd m).payload ((c : Thread nD τ), SemLoc.reg barSem) 0 d) = _ from rest_bar m c)) $$ Hpay
  imod (Rounds.cell_close ER (Rd m) (Set.mem_univ (K (c, none))) (fun h => h) (R := 0 + 1) (duties_later m (barCell c))) $$ [Hat] with Hz
  · isplitr; · iapply (inv_at m K c none); iexact HR
    iexact Hat
  iapply Hk
  isplitl [Hp]; · iexact Hp
  isplitl [Hz]; · iexact Hz
  isplitl [HO]
  · iexists _; iexact HO
  iexact Hlev

/-- The pieces handed over, sorted by the send that lands in them. -/
theorem pieces_true : (barPay c true : sProp 𝕄) ⊢ iprop((Dst c 0 ∗ Dst c 1 ∗ Dst c 2 ∗ Dst c 3) ∗ Dst c 8 ∗ Dst c 9) := by
  show iprop(rAny (nxt c) 0 0 16384 ∗ rAny (nxt c) 2 0 8192) ⊢ iprop((rAny (nxt c) 0 0 4096 ∗ rAny (nxt c) 0 4096 8192 ∗ rAny (nxt c) 0 8192 12288 ∗ rAny (nxt c) 0 12288 16384)
    ∗ rAny (nxt c) 2 0 4096 ∗ rAny (nxt c) 2 4096 8192)
  refine BIClass.sep_mono ?_ (rAny_split (by omega) (by omega))
  exact (rAny_split (mid := 4096) (by omega) (by omega)).trans (BIClass.sep_mono (BI.Entails.refl _)
    ((rAny_split (mid := 8192) (by omega) (by omega)).trans (BIClass.sep_mono (BI.Entails.refl _) (rAny_split (mid := 12288) (by omega) (by omega)))))
/-- What a neighbour's signal hands over is the destinations of the sends to it. -/
theorem pieces_false : (barPay c false : sProp 𝕄) ⊢ iprop((Dst c 4 ∗ Dst c 5 ∗ Dst c 6 ∗ Dst c 7) ∗ Dst c 10 ∗ Dst c 11) := by
  show iprop(rAny (prv c) 1 0 16384 ∗ rAny (prv c) 2 8192 16384) ⊢ iprop((rAny (prv c) 1 0 4096 ∗ rAny (prv c) 1 4096 8192 ∗ rAny (prv c) 1 8192 12288 ∗ rAny (prv c) 1 12288 16384)
    ∗ rAny (prv c) 2 8192 12288 ∗ rAny (prv c) 2 12288 16384)
  refine BIClass.sep_mono ?_ (rAny_split (by omega) (by omega))
  exact (rAny_split (mid := 4096) (by omega) (by omega)).trans (BIClass.sep_mono (BI.Entails.refl _)
    ((rAny_split (mid := 8192) (by omega) (by omega)).trans (BIClass.sep_mono (BI.Entails.refl _) (rAny_split (mid := 12288) (by omega) (by omega)))))

end Cert.KernelIdeal.Ring

end
-- ==== Proof.Body.lean ====
/- The body, phase by phase, from what the launch hands a device to the whole result and every scratch element and
   semaphore back. -/
module

public import proofs.«01_k».proof.Proof.Remote

@[expose] public section

noncomputable section

namespace Cert.KernelIdeal.Ring

open Idealize.ShloMosaic Idealize.ShloMosaic.TcCoe Idealize.SL.Sem Cert.KernelIdeal Cert.KernelIdeal.Gen
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ) (c : Dev nD) (K : Dev nD × Kc → ℕ)

/-! ## A quarter of the own rows, rounded and sent both ways -/

/-- Own rows still to be rounded. -/
def gTodo (lo : ℕ) : sProp 𝕄 := iprop(∃ f, gPt c lo 16384 fullShare f)

/-- One block rounded into the bf16 rows. -/
theorem castBlk_step {lo b : ℕ} (hb : b < 16) (hlo : lo ≤ 1024 * b) (l : List (Fin 12)) :
    Hoare c iprop(CX m c b ∗ Ow c l ∗ gPt c lo (1024 * b) fullShare (G m c) ∗ gTodo c (1024 * b))
      iprop(CX m c (b + 1) ∗ Ow c l ∗ gPt c lo (1024 * (b + 1)) fullShare (G m c) ∗ gTodo c (1024 * (b + 1))) (castCore b) := by
  intro k Φ
  unfold gTodo
  rw [show 1024 * (b + 1) = 1024 * b + 1024 by omega]
  iintro ⟨HX, HO, Hd, ⟨%f, Ht⟩⟩ Hk
  ihave H := (gPt_split (c := c) (mid := 1024 * b + 1024) (by omega) (by omega) fullShare f).1 $$ Ht
  icases H with ⟨Hb, Ht⟩
  iapply (castCore_step m c hb l f k Φ) $$ [HX HO Hb]
  · isplitl [HX]; · iexact HX
    isplitl [HO] <;> iassumption
  iintro ⟨HX, HO, Hb⟩
  iapply Hk
  isplitl [HX]; · iexact HX
  isplitl [HO]; · iexact HO
  isplitl [Hd Hb]
  · iapply (gPt_split (c := c) (mid := 1024 * b) hlo (by omega) fullShare (G m c)).2
    isplitl [Hd] <;> iassumption
  iexists f; iexact Ht

/-- A block within a quarter is only rounded; the last of a quarter is followed by its two sends. -/
theorem castIter_mid {b : ℕ} (h : (b + 1) % 4 ≠ 0) (k : Pg F) : castIter c b k = castCore b k := by
  unfold castIter castCore
  rw [show whenP ((b + 1) % 4 = 0) (fun k => sendR c (Fin.ofNat 4 (b / 4)) (sendL c (Fin.ofNat 4 (b / 4)) k)) k = k from if_neg h]
theorem castIter_end {b : ℕ} {q : Fin 4} (h : b = 4 * q.val + 3) (k : Pg F) : castIter c b k = castCore b (sendR c q (sendL c q k)) := by
  have hq : Fin.ofNat 4 (b / 4) = q := Fin.ext (by show b / 4 % 4 = q.val; omega)
  unfold castIter castCore
  rw [hq, show whenP ((b + 1) % 4 = 0) (fun k => sendR c q (sendL c q k)) k = sendR c q (sendL c q k) from if_pos (by omega)]

/-- Own rows dealt to the two sends and the device's own reads, and gathered again. -/
theorem gPt_shares (lo hi : ℕ) (f : I2 16384 → F .bf16) :
    (gPt c lo hi fullShare f : sProp 𝕄) ⊣⊢ iprop(gPt c lo hi qK f ∗ gPt c lo hi qR f ∗ gPt c lo hi qL f) := by
  have h1 : (gPt c lo hi fullShare f : sProp 𝕄) ⊣⊢ iprop(gPt c lo hi qK f ∗ gPt c lo hi fullShare.right f) := pointsTo_share (PosShare.mem_left_op_right fullShare)
  have h2 : (gPt c lo hi fullShare.right f : sProp 𝕄) ⊣⊢ iprop(gPt c lo hi qR f ∗ gPt c lo hi qL f) := pointsTo_share (PosShare.mem_left_op_right fullShare.right)
  exact ⟨h1.1.trans (BIClass.sep_mono (BI.Entails.refl _) h2.1), (BIClass.sep_mono (BI.Entails.refl _) h2.2).trans h1.2⟩

/-- A quarter rounded and sent both ways. -/
theorem quarter_step (q : Fin 4) {b : ℕ} (hb : b = 4 * q.val) {jR jL : Fin 12} (hR : jR = Fin.castLE (by decide) q) (hL : jL = Fin.natAdd 4 (Fin.castLE (by decide) q : Fin 8)) (l : List (Fin 12)) :
    Hoare c iprop(Recs m K ∗ (CX m c b ∗ gTodo c (1024 * b) ∗ gPt c 0 (1024 * b) qK (G m c)) ∗ (Toks c jR ∗ Dst c jR) ∗ (Toks c jL ∗ Dst c jL) ∗ Ow c (jR :: jL :: l))
      iprop((CX m c (b + 4) ∗ gTodo c (1024 * (b + 4)) ∗ gPt c 0 (1024 * (b + 4)) qK (G m c)) ∗ (SCred c jR ∗ SCred c jL) ∗ Ow c l) (loop (castIter c) b 4) := by
  have hq := q.isLt
  have hc := (((castBlk_step m c (lo := 1024 * b) (b := b) (by omega) (by omega) (jR :: jL :: l)).comp
    (castBlk_step m c (lo := 1024 * b) (b := b + 1) (by omega) (by omega) (jR :: jL :: l))).comp
    (castBlk_step m c (lo := 1024 * b) (b := b + 2) (by omega) (by omega) (jR :: jL :: l))).comp
    (castBlk_step m c (lo := 1024 * b) (b := b + 3) (by omega) (by omega) (jR :: jL :: l))
  intro k Φ
  rw [show loop (castIter c) b 4 k = castIter c b (castIter c (b + 1) (castIter c (b + 2) (castIter c (b + 3) k))) from rfl,
    castIter_mid c (by omega), castIter_mid c (by omega), castIter_mid c (by omega), castIter_end c (q := q) (by omega)]
  iintro ⟨#HR, ⟨HX, Ht, Hg⟩, HsR, HsL, HO⟩ Hk
  iapply (hc _ Φ) $$ [HX Ht HO]
  · isplitl [HX]; · iexact HX
    isplitl [HO]; · iexact HO
    isplitr; · rw [gPt_none (Nat.le_refl _)]; iempintro
    iexact Ht
  iintro ⟨HX, HO, Hq, Ht⟩
  ihave H := (gPt_shares c (1024 * b) (1024 * (b + 3 + 1)) (G m c)).1 $$ Hq
  icases H with ⟨Hk1, Hr1, Hl1⟩
  have eR : sendPay m c jR = gPt c (1024 * b) (1024 * (b + 3 + 1)) qR (G m c) := by
    have hv : jR.val = q.val := by rw [hR]; rfl
    unfold sendPay
    rw [if_pos (by omega), show (jq jR).val = q.val by (show jR.val % 4 = q.val; omega), show 4096 * q.val = 1024 * b by omega, show 1024 * b + 4096 = 1024 * (b + 3 + 1) by omega]
  have eL : sendPay m c jL = gPt c (1024 * b) (1024 * (b + 3 + 1)) qL (G m c) := by
    have hv : jL.val = 4 + q.val := by rw [hL]; rfl
    unfold sendPay
    rw [if_neg (by omega), if_pos (by omega), show (jq jL).val = q.val by (show jL.val % 4 = q.val; omega), show 4096 * q.val = 1024 * b by omega, show 1024 * b + 4096 = 1024 * (b + 3 + 1) by omega]
  iapply (sendR_step m c K q (jL :: l) hR _ Φ) $$ [Hr1 HsR HO]
  · isplitr; · iexact HR
    isplitl [Hr1]; · iapply (Entails.of_eq eR.symm) $$ Hr1
    isplitl [HsR] <;> iassumption
  iintro ⟨HcR, HO⟩
  iapply (sendL_step m c K q l hL k Φ) $$ [Hl1 HsL HO]
  · isplitr; · iexact HR
    isplitl [Hl1]; · iapply (Entails.of_eq eL.symm) $$ Hl1
    isplitl [HsL] <;> iassumption
  iintro ⟨HcL, HO⟩
  iapply Hk
  isplitl [HX Ht Hg Hk1]
  · isplitl [HX]; · iexact HX
    isplitl [Ht]; · iexact Ht
    iapply (gPt_split (c := c) (mid := 1024 * b) (by omega) (by omega) qK (G m c)).2
    isplitl [Hg] <;> iassumption
  isplitl [HcR HcL]
  · isplitl [HcR] <;> iassumption
  iexact HO

/-! ## Phase 1 -/

/-- The argument's staging slots at rest. -/
def XIdle : sProp 𝕄 := iprop(XFree c 0 ∗ XFree c 1 ∗ XFree c 2)

/-- The first two blocks started in. -/
theorem CX_start (k : Pg F) (Φ : PUnit → sProp 𝕄) :
    iprop(XIdle c ∗ xPt m c 0 16384) ⊢ iprop((CX m c 0 -∗ Wp c k Φ) -∗ Wp c (xStart (bk 0) 0 (xStart (bk 1) 1 k)) Φ) := by
  unfold XIdle
  iintro ⟨⟨H0, H1, H2⟩, Hx⟩ Hk
  ihave H := (xPt_split (m := m) (c := c) (mid := 1024) (by omega) (by omega)).1 $$ Hx
  icases H with ⟨Hb0, Hx⟩
  ihave H := (xPt_split (m := m) (c := c) (mid := 2048) (by omega) (by omega)).1 $$ Hx
  icases H with ⟨Hb1, Hx⟩
  iapply (xStart_at m c (b := 0) (by omega) 0 _ Φ) $$ [H0 Hb0]
  · isplitl [H0]; · iexact H0
    iexact Hb0
  iintro H0
  iapply (xStart_at m c (b := 1) (by omega) 1 k Φ) $$ [H1 Hb1]
  · isplitl [H1]; · iexact H1
    iexact Hb1
  iintro H1
  iapply Hk
  unfold CX XS
  rw [if_pos (by decide), if_pos (by decide), xPt_none (lo := 0) (hi := 1024 * 0) (by omega)]
  isplitl [H0]; · iexact H0
  isplitl [H1]; · iexact H1
  isplitl [H2]; · iexact H2
  isplitr; · iempintro
  iexact Hx
/-- After the last block the slots are at rest. -/
theorem CX_end : (CX m c 16 : sProp 𝕄) ⊢ iprop(XIdle c ∗ xPt m c 0 16384) := by
  unfold CX XS XIdle
  rw [if_neg (by decide), if_neg (by decide)]
  iintro ⟨H0, H1, H2, Hx, -⟩
  isplitr [Hx]
  · isplitl [H2]; · iexact H2
    isplitl [H0]; · iexact H0
    iexact H1
  iexact Hx

/-- From the barrier to the device's own rows out: what phase 1 takes, and what it leaves. -/
def P1pre : sProp 𝕄 :=
  iprop((BarRes c ∗ (∃ W, owes (c : Thread nD τ) (O₀ c) W) ∗ levAts L lv)
    ∗ (XIdle c ∗ xPt m c 0 16384 ∗ gTodo c 0)
    ∗ (Toks c 0 ∗ Toks c 1 ∗ Toks c 2 ∗ Toks c 3 ∗ Toks c 4 ∗ Toks c 5 ∗ Toks c 6 ∗ Toks c 7)
    ∗ Idle c ∗ oTodo c (oLo c .own 0) (oLo c .own 16))
def P1post : sProp 𝕄 :=
  iprop(Zero c none ∗ (XIdle c ∗ xPt m c 0 16384 ∗ gPt c 0 16384 qK (G m c))
    ∗ (SCred c 0 ∗ SCred c 1 ∗ SCred c 2 ∗ SCred c 3 ∗ SCred c 4 ∗ SCred c 5 ∗ SCred c 6 ∗ SCred c 7)
    ∗ (Dst c 8 ∗ Dst c 9 ∗ Dst c 10 ∗ Dst c 11)
    ∗ Idle c ∗ oPt c (oLo c .own 0) (oLo c .own 16) (O m) ∗ Ow c [8, 9, 10, 11])

/-- The barrier, and all own rows rounded and sent. -/
theorem phase1_step : Hoare c iprop(Recs m K ∗ P1pre m c) (P1post m c) (phase1 c) := by
  intro k Φ
  unfold phase1 P1pre P1post
  rw [show loop (castIter c) 0 16 (ownOut c k)
    = loop (castIter c) 0 4 (loop (castIter c) 4 4 (loop (castIter c) 8 4 (loop (castIter c) 12 4 (ownOut c k)))) from rfl]
  iintro ⟨#HR, ⟨HB, HO, Hlev⟩, ⟨HX, Hx, Hg⟩, ⟨T0, T1, T2, T3, T4, T5, T6, T7⟩, HI, Ho⟩ Hk
  iapply (barrier_step m c K _ Φ) $$ [HB HO Hlev]
  · isplitr; · iexact HR
    isplitl [HB]; · iexact HB
    isplitl [HO] <;> iassumption
  iintro ⟨⟨Hpf, Hpt⟩, Hz, HO⟩
  ihave Hpf := (pieces_false c) $$ Hpf
  ihave Hpt := (pieces_true c) $$ Hpt
  icases Hpf with ⟨⟨D4, D5, D6, D7⟩, D10, D11⟩
  icases Hpt with ⟨⟨D0, D1, D2, D3⟩, D8, D9⟩
  iapply (CX_start m c _ Φ) $$ [HX Hx]
  · isplitl [HX] <;> iassumption
  iintro HC
  iapply (quarter_step m c K 0 (b := 0) rfl (jR := 0) (jL := 4) rfl rfl [1, 5, 2, 6, 3, 7, 8, 9, 10, 11] _ Φ) $$ [HC Hg T0 D0 T4 D4 HO]
  · isplitr; · iexact HR
    isplitl [HC Hg]
    · isplitl [HC]; · iexact HC
      isplitl [Hg]; · iexact Hg
      rw [gPt_none (by omega)]; iempintro
    isplitl [T0 D0]
    · isplitl [T0] <;> iassumption
    isplitl [T4 D4]
    · isplitl [T4] <;> iassumption
    iexact HO
  iintro ⟨HC, ⟨S0, S4⟩, HO⟩
  iapply (quarter_step m c K 1 (b := 4) rfl (jR := 1) (jL := 5) rfl rfl [2, 6, 3, 7, 8, 9, 10, 11] _ Φ) $$ [HC T1 D1 T5 D5 HO]
  · isplitr; · iexact HR
    isplitl [HC]; · iexact HC
    isplitl [T1 D1]
    · isplitl [T1] <;> iassumption
    isplitl [T5 D5]
    · isplitl [T5] <;> iassumption
    iexact HO
  iintro ⟨HC, ⟨S1, S5⟩, HO⟩
  iapply (quarter_step m c K 2 (b := 8) rfl (jR := 2) (jL := 6) rfl rfl [3, 7, 8, 9, 10, 11] _ Φ) $$ [HC T2 D2 T6 D6 HO]
  · isplitr; · iexact HR
    isplitl [HC]; · iexact HC
    isplitl [T2 D2]
    · isplitl [T2] <;> iassumption
    isplitl [T6 D6]
    · isplitl [T6] <;> iassumption
    iexact HO
  iintro ⟨HC, ⟨S2, S6⟩, HO⟩
  iapply (quarter_step m c K 3 (b := 12) rfl (jR := 3) (jL := 7) rfl rfl [8, 9, 10, 11] _ Φ) $$ [HC T3 D3 T7 D7 HO]
  · isplitr; · iexact HR
    isplitl [HC]; · iexact HC
    isplitl [T3 D3]
    · isplitl [T3] <;> iassumption
    isplitl [T7 D7]
    · isplitl [T7] <;> iassumption
    iexact HO
  iintro ⟨⟨HC, -, Hg⟩, ⟨S3, S7⟩, HO⟩
  unfold Idle
  icases HI with ⟨HC01, HO0, HO1⟩
  iapply (ownOut_step m c qK [8, 9, 10, 11] k Φ) $$ [HO0 HO1 Ho HO Hg]
  · isplitl [HO0 HO1 Ho]
    · isplitl [HO0]; · iexact HO0
      isplitl [HO1] <;> iassumption
    isplitl [HO]; · iexact HO
    iexact Hg
  iintro ⟨⟨HO0, HO1, Ho⟩, HO, Hg⟩
  iapply Hk
  isplitl [Hz]; · iexact Hz
  isplitl [HC Hg]
  · ihave H := (CX_end m c) $$ HC
    icases H with ⟨HX, Hx⟩
    isplitl [HX]; · iexact HX
    isplitl [Hx] <;> iassumption
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6] <;> iassumption
  isplitl [D8 D9 D10 D11]
  · isplitl [D8]; · iexact D8
    isplitl [D9]; · iexact D9
    isplitl [D10] <;> iassumption
  isplitl [HC01 HO0 HO1]
  · isplitl [HC01]; · iexact HC01
    isplitl [HO0] <;> iassumption
  isplitl [Ho] <;> iassumption

/-! ## Phases 2 and 3 -/

/-- Landing `j` awaited and passed on as send `i`: half its share stays to be read. -/
theorem landPass_step {j i : Fin 12} {t : Fin 3} {q : Fin 4} {e : Dev nD} (l : List (Fin 12)) (hj : lvK (some (some (true, j))) < lvK (some (some (true, i))))
    (hl : ∀ i ∈ l, lvK (some (some (true, j))) < lvK (some (some (true, i))))
    (hi : i = Fin.natAdd 8 q) (he : e = tgt i c) (ht : jp i = t) (hd : tDev 2 e = tDev t c) (hjt : jt j = t) (hjq : jq j = q) :
    Hoare c iprop(Recs m K ∗ RIn c j ∗ (Toks c i ∗ Dst c i) ∗ Ow c (i :: l))
      iprop(rPt c t.val (4096 * q.val) (4096 * q.val + 4096) fullShare.left (R m c) ∗ Zero c (some (true, j)) ∗ SCred c i ∗ Ow c l)
      (fun k => recvOwn j t q (passOn e t q k)) := by
  have hv : i.val = 8 + q.val := by rw [hi]; rfl
  have eq : jq i = q := Fin.ext (by show i.val % 4 = q.val; omega)
  have hs : recvPay m c j ⊢ iprop(rPt c t.val (4096 * q.val) (4096 * q.val + 4096) fullShare.left (R m c) ∗ sendPay m c i) := by
    unfold recvPay sendPay
    rw [if_neg (by omega), if_neg (by omega), hjt, hjq, ht, eq]
    exact (pointsTo_share (PosShare.mem_left_op_right fullShare)).1
  intro k Φ
  iintro ⟨#HR, HI, HT, HO⟩ Hk
  iapply (recv_step m c K j (i :: l) (by
    intro i' h'
    rcases List.mem_cons.mp h' with rfl | h'
    · exact hj
    · exact hl i' h') (dst := rQtr t q) rfl _ Φ) $$ [HI HO]
  · isplitr; · iexact HR
    isplitl [HI] <;> iassumption
  iintro ⟨Hp, Hz, HO⟩
  ihave H := hs $$ Hp
  icases H with ⟨Hl, Hs⟩
  iapply (passOn_step m c K q t e l hi he ht hd k Φ) $$ [Hs HT HO]
  · isplitr; · iexact HR
    isplitl [Hs]; · iexact Hs
    isplitl [HT] <;> iassumption
  iintro ⟨HS, HO⟩
  iapply Hk
  isplitl [Hl]; · iexact Hl
  isplitl [Hz]; · iexact Hz
  isplitl [HS] <;> iassumption

/-- The devices that rows are passed on to. -/
theorem rightDev_tgt8 : rightDev c = tgt 8 c ∧ rightDev c = tgt 9 c := by rw [rightDev_eq]; exact ⟨rfl, rfl⟩
theorem leftDev_tgt10 : leftDev c = tgt 10 c ∧ leftDev c = tgt 11 c := by rw [leftDev_eq]; exact ⟨rfl, rfl⟩
/-- What is passed on is the opposite device's rows there. -/
theorem tDev_right : tDev 2 (rightDev c) = tDev 0 c := by rw [rightDev_eq]; revert c; decide
theorem tDev_left : tDev 2 (leftDev c) = tDev 1 c := by rw [leftDev_eq]; revert c; decide

/-- Two landed quarters written out: the rows of 8 blocks, in the share held. -/
theorem conv8_step {w : Src} {t : Fin 3} (hw : wDev w c = tDev t c) (q : PosShare TreeShare) (l : List (Fin 12)) {b0 : ℕ} (h16 : b0 + 8 ≤ 16) :
    Hoare c iprop(Idle c ∗ (rPt c t.val (1024 * b0) (1024 * b0 + 4096) q (R m c) ∗ rPt c t.val (1024 * b0 + 4096) (1024 * b0 + 8192) q (R m c)) ∗ oTodo c (oLo c w b0) (oLo c w (b0 + 8)) ∗ Ow c l)
      iprop(Idle c ∗ oPt c (oLo c w b0) (oLo c w (b0 + 8)) (O m) ∗ Ow c l) (conv w t c b0 8) := by
  refine (conv_step m c hw q l (b0 := b0) (n := 8) (by omega) (by omega) h16).mono ?_ ?_
  · iintro ⟨HI, Hr, Ho, HO⟩
    isplitl [HI]; · iexact HI
    isplitl [Hr]
    · rw [show 1024 * (b0 + 8) = 1024 * b0 + 8192 by omega]
      iapply (rPt_split (c := c) (mid := 1024 * b0 + 4096) (by omega) (by omega) t.val q (R m c)).2 $$ Hr
    isplitl [Ho] <;> iassumption
  · iintro ⟨HI, -, Ho, HO⟩
    isplitl [HI]; · iexact HI
    isplitl [Ho] <;> iassumption

/-- What a landing delivers, by its rows. -/
theorem recvPay_rows {j : Fin 12} {t lo : ℕ} (ht : (jt j).val = t) (hq : 4096 * (jq j).val = lo) :
    recvPay m c j = rPt c t lo (lo + 4096) fullShare (R m c) := by
  unfold recvPay
  rw [ht, hq]

def P2pre : sProp 𝕄 :=
  iprop((RIn c 0 ∗ RIn c 1 ∗ RIn c 2 ∗ RIn c 3 ∗ RIn c 4 ∗ RIn c 5 ∗ RIn c 6 ∗ RIn c 7)
    ∗ ((Toks c 8 ∗ Dst c 8) ∗ (Toks c 9 ∗ Dst c 9) ∗ (Toks c 10 ∗ Dst c 10) ∗ (Toks c 11 ∗ Dst c 11))
    ∗ Idle c ∗ (oTodo c (oLo c .left 0) (oLo c .left 16) ∗ oTodo c (oLo c .right 0) (oLo c .right 16)) ∗ Ow c [8, 9, 10, 11])
def P2post : sProp 𝕄 :=
  iprop((Zero c (some (true, 0)) ∗ Zero c (some (true, 1)) ∗ Zero c (some (true, 2)) ∗ Zero c (some (true, 3)) ∗ Zero c (some (true, 4)) ∗ Zero c (some (true, 5)) ∗ Zero c (some (true, 6)) ∗ Zero c (some (true, 7)))
    ∗ (SCred c 8 ∗ SCred c 9 ∗ SCred c 10 ∗ SCred c 11)
    ∗ Idle c ∗ (oPt c (oLo c .left 0) (oLo c .left 16) (O m) ∗ oPt c (oLo c .right 0) (oLo c .right 16) (O m)) ∗ Ow c [])

/-- Result rows to come split. -/
theorem oTodo_split {lo mid hi : ℕ} (h1 : lo ≤ mid) (h2 : mid ≤ hi) : (oTodo c lo hi : sProp 𝕄) ⊢ iprop(oTodo c lo mid ∗ oTodo c mid hi) := by
  unfold oTodo
  iintro ⟨%f, H⟩
  ihave H := (oPt_split (c := c) h1 h2 f).1 $$ H
  icases H with ⟨H1, H2⟩
  isplitl [H1] <;> iexists f <;> iassumption
/-- Later blocks lie further on. -/
theorem oLo_le (w : Src) {i j : ℕ} (h : i ≤ j) : oLo c w i ≤ oLo c w j := by unfold oLo; omega

/-- The own rows written out. -/
theorem phase2_step : Hoare c iprop(Recs m K ∗ P2pre c) (P2post m c) (phase2 c) := by
  intro k Φ
  unfold phase2 P2pre P2post
  iintro ⟨#HR, ⟨R0, R1, R2, R3, R4, R5, R6, R7⟩, ⟨T8, T9, T10, T11⟩, HI, ⟨Hl, Hr⟩, HO⟩ Hk
  ihave H := (oTodo_split c (oLo_le c .left (show 0 ≤ 8 by omega)) (oLo_le c .left (show 8 ≤ 16 by omega))) $$ Hl
  icases H with ⟨Hl0, Hl8⟩
  ihave H := (oTodo_split c (oLo_le c .right (show 0 ≤ 8 by omega)) (oLo_le c .right (show 8 ≤ 16 by omega))) $$ Hr
  icases H with ⟨Hr0, Hr8⟩
  iapply (landPass_step m c K (j := 0) (i := 8) (t := 0) (q := 0) (e := rightDev c) [9, 10, 11] (by decide) (by decide) rfl (rightDev_tgt8 c).1 rfl (tDev_right c) rfl rfl _ Φ) $$ [R0 T8 HO]
  · isplitr; · iexact HR
    isplitl [R0]; · iexact R0
    isplitl [T8] <;> iassumption
  iintro ⟨P0, Z0, S8, HO⟩
  iapply (landPass_step m c K (j := 1) (i := 9) (t := 0) (q := 1) (e := rightDev c) [10, 11] (by decide) (by decide) rfl (rightDev_tgt8 c).2 rfl (tDev_right c) rfl rfl _ Φ) $$ [R1 T9 HO]
  · isplitr; · iexact HR
    isplitl [R1]; · iexact R1
    isplitl [T9] <;> iassumption
  iintro ⟨P1, Z1, S9, HO⟩
  iapply (conv8_step m c (w := .left) (t := 0) rfl fullShare.left [10, 11] (b0 := 0) (by omega) _ Φ) $$ [HI P0 P1 Hl0 HO]
  · isplitl [HI]; · iexact HI
    isplitl [P0 P1]
    · isplitl [P0]; · iexact P0
      iexact P1
    isplitl [Hl0]; · iexact Hl0
    iexact HO
  iintro ⟨HI, Hl0, HO⟩
  iapply (recv_step m c K 4 [10, 11] (by decide) (dst := rQtr 1 0) rfl _ Φ) $$ [R4 HO]
  · isplitr; · iexact HR
    isplitl [R4] <;> iassumption
  iintro ⟨P4, Z4, HO⟩
  iapply (recv_step m c K 5 [10, 11] (by decide) (dst := rQtr 1 1) rfl _ Φ) $$ [R5 HO]
  · isplitr; · iexact HR
    isplitl [R5] <;> iassumption
  iintro ⟨P5, Z5, HO⟩
  iapply (conv8_step m c (w := .right) (t := 1) rfl fullShare [10, 11] (b0 := 0) (by omega) _ Φ) $$ [HI P4 P5 Hr0 HO]
  · isplitl [HI]; · iexact HI
    isplitl [P4 P5]
    · isplitl [P4]; · iapply (Entails.of_eq (recvPay_rows m c (t := 1) (lo := 0) rfl rfl)) $$ P4
      iapply (Entails.of_eq (recvPay_rows m c (t := 1) (lo := 4096) rfl rfl)) $$ P5
    isplitl [Hr0]; · iexact Hr0
    iexact HO
  iintro ⟨HI, Hr0, HO⟩
  iapply (landPass_step m c K (j := 6) (i := 10) (t := 1) (q := 2) (e := leftDev c) [11] (by decide) (by decide) rfl (leftDev_tgt10 c).1 rfl (tDev_left c) rfl rfl _ Φ) $$ [R6 T10 HO]
  · isplitr; · iexact HR
    isplitl [R6]; · iexact R6
    isplitl [T10] <;> iassumption
  iintro ⟨P6, Z6, S10, HO⟩
  iapply (landPass_step m c K (j := 7) (i := 11) (t := 1) (q := 3) (e := leftDev c) [] (by decide) (by decide) rfl (leftDev_tgt10 c).2 rfl (tDev_left c) rfl rfl _ Φ) $$ [R7 T11 HO]
  · isplitr; · iexact HR
    isplitl [R7]; · iexact R7
    isplitl [T11] <;> iassumption
  iintro ⟨P7, Z7, S11, HO⟩
  iapply (recv_step m c K 2 [] (by decide) (dst := rQtr 0 2) rfl _ Φ) $$ [R2 HO]
  · isplitr; · iexact HR
    isplitl [R2] <;> iassumption
  iintro ⟨P2, Z2, HO⟩
  iapply (recv_step m c K 3 [] (by decide) (dst := rQtr 0 3) rfl _ Φ) $$ [R3 HO]
  · isplitr; · iexact HR
    isplitl [R3] <;> iassumption
  iintro ⟨P3, Z3, HO⟩
  iapply (conv8_step m c (w := .left) (t := 0) rfl fullShare [] (b0 := 8) (by omega) _ Φ) $$ [HI P2 P3 Hl8 HO]
  · isplitl [HI]; · iexact HI
    isplitl [P2 P3]
    · isplitl [P2]; · iapply (Entails.of_eq (recvPay_rows m c (t := 0) (lo := 8192) rfl rfl)) $$ P2
      iapply (Entails.of_eq (recvPay_rows m c (t := 0) (lo := 12288) rfl rfl)) $$ P3
    isplitl [Hl8]; · iexact Hl8
    iexact HO
  iintro ⟨HI, Hl8, HO⟩
  iapply (conv8_step m c (w := .right) (t := 1) rfl fullShare.left [] (b0 := 8) (by omega) _ Φ) $$ [HI P6 P7 Hr8 HO]
  · isplitl [HI]; · iexact HI
    isplitl [P6 P7]
    · isplitl [P6]; · iexact P6
      iexact P7
    isplitl [Hr8]; · iexact Hr8
    iexact HO
  iintro ⟨HI, Hr8, HO⟩
  iapply Hk
  isplitl [Z0 Z1 Z2 Z3 Z4 Z5 Z6 Z7]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6] <;> iassumption
  isplitl [S8 S9 S10 S11]
  · isplitl [S8]; · iexact S8
    isplitl [S9]; · iexact S9
    isplitl [S10] <;> iassumption
  isplitl [HI]; · iexact HI
  isplitr [HO]
  · isplitl [Hl0 Hl8]
    · iapply (oPt_split (c := c) (mid := oLo c .left 8) (oLo_le c .left (by omega)) (oLo_le c .left (by omega)) (O m)).2
      isplitl [Hl0]; · iexact Hl0
      iexact Hl8
    · iapply (oPt_split (c := c) (mid := oLo c .right 8) (oLo_le c .right (by omega)) (oLo_le c .right (by omega)) (O m)).2
      isplitl [Hr0]; · iexact Hr0
      iexact Hr8
  iexact HO

/-- A passed-on landing awaited and its quarter written out. -/
theorem opp_step {j : Fin 12} {t : Fin 3} {q : Fin 4} (hj : j = Fin.natAdd 8 q) {b0 : ℕ} (hb : b0 = 4 * q.val) :
    Hoare c iprop(Recs m K ∗ RIn c j ∗ Idle c ∗ oTodo c (oLo c .opp b0) (oLo c .opp (b0 + 4)) ∗ Ow c [])
      iprop(Zero c (some (true, j)) ∗ Idle c ∗ oPt c (oLo c .opp b0) (oLo c .opp (b0 + 4)) (O m) ∗ Ow c [])
      (fun k => recvPass t q (conv .opp 2 c b0 4 k)) := by
  have hq := q.isLt
  have hv : j.val = 8 + q.val := by rw [hj]; rfl
  have hr : recvPay m c j = rPt c (2 : Fin 3).val (1024 * b0) (1024 * (b0 + 4)) fullShare (R m c) := by
    unfold recvPay
    rw [show (jt j).val = (2 : Fin 3).val by (show j.val / 4 = 2; omega), show (jq j).val = q.val by (show j.val % 4 = q.val; omega),
      show 4096 * q.val = 1024 * b0 by omega, show 1024 * b0 + 4096 = 1024 * (b0 + 4) by omega]
  subst hj
  intro k Φ
  iintro ⟨#HR, HRi, HI, Ho, HO⟩ Hk
  iapply (recv_step m c K (Fin.natAdd 8 q) [] (fun _ h => absurd h List.not_mem_nil) (dst := rQtr 2 q) rfl _ Φ) $$ [HRi HO]
  · isplitr; · iexact HR
    isplitl [HRi] <;> iassumption
  iintro ⟨Hp, Hz, HO⟩
  iapply (conv_step m c (w := .opp) (t := 2) rfl fullShare [] (b0 := b0) (n := 4) (by omega) (by omega) (by omega) k Φ) $$ [Hp HI Ho HO]
  · isplitl [HI]; · iexact HI
    isplitl [Hp]; · iapply (Entails.of_eq hr) $$ Hp
    isplitl [Ho] <;> iassumption
  iintro ⟨HI, -, Ho, HO⟩
  iapply Hk
  isplitl [Hz]; · iexact Hz
  isplitl [HI]; · iexact HI
  isplitl [Ho] <;> iassumption

def P3pre : sProp 𝕄 :=
  iprop((RIn c 8 ∗ RIn c 9 ∗ RIn c 10 ∗ RIn c 11) ∗ Idle c ∗ oTodo c (oLo c .opp 0) (oLo c .opp 16) ∗ Ow c [])
def P3post : sProp 𝕄 :=
  iprop((Zero c (some (true, 8)) ∗ Zero c (some (true, 9)) ∗ Zero c (some (true, 10)) ∗ Zero c (some (true, 11)))
    ∗ Idle c ∗ oPt c (oLo c .opp 0) (oLo c .opp 16) (O m) ∗ Ow c [])

/-- Everything that lands passed on and written out. -/
theorem phase3_step : Hoare c iprop(Recs m K ∗ P3pre c) (P3post m c) (phase3 c) := by
  intro k Φ
  unfold phase3 P3pre P3post
  iintro ⟨#HR, ⟨R8, R9, R10, R11⟩, HI, Ho, HO⟩ Hk
  ihave H := (oTodo_split c (oLo_le c .opp (show 0 ≤ 4 by omega)) (oLo_le c .opp (show 4 ≤ 16 by omega))) $$ Ho
  icases H with ⟨H0, Ho⟩
  ihave H := (oTodo_split c (oLo_le c .opp (show 4 ≤ 8 by omega)) (oLo_le c .opp (show 8 ≤ 16 by omega))) $$ Ho
  icases H with ⟨H4, Ho⟩
  ihave H := (oTodo_split c (oLo_le c .opp (show 8 ≤ 12 by omega)) (oLo_le c .opp (show 12 ≤ 16 by omega))) $$ Ho
  icases H with ⟨H8, H12⟩
  iapply (opp_step m c K (j := 8) (t := 0) (q := 0) rfl (b0 := 0) rfl _ Φ) $$ [R8 HI H0 HO]
  · isplitr; · iexact HR
    isplitl [R8]; · iexact R8
    isplitl [HI]; · iexact HI
    isplitl [H0]; · iexact H0
    iexact HO
  iintro ⟨Z8, HI, H0, HO⟩
  iapply (opp_step m c K (j := 10) (t := 1) (q := 2) rfl (b0 := 8) rfl _ Φ) $$ [R10 HI H8 HO]
  · isplitr; · iexact HR
    isplitl [R10]; · iexact R10
    isplitl [HI]; · iexact HI
    isplitl [H8]; · iexact H8
    iexact HO
  iintro ⟨Z10, HI, H8, HO⟩
  iapply (opp_step m c K (j := 9) (t := 0) (q := 1) rfl (b0 := 4) rfl _ Φ) $$ [R9 HI H4 HO]
  · isplitr; · iexact HR
    isplitl [R9]; · iexact R9
    isplitl [HI]; · iexact HI
    isplitl [H4]; · iexact H4
    iexact HO
  iintro ⟨Z9, HI, H4, HO⟩
  iapply (opp_step m c K (j := 11) (t := 1) (q := 3) rfl (b0 := 12) rfl k Φ) $$ [R11 HI H12 HO]
  · isplitr; · iexact HR
    isplitl [R11]; · iexact R11
    isplitl [HI]; · iexact HI
    isplitl [H12]; · iexact H12
    iexact HO
  iintro ⟨Z11, HI, H12, HO⟩
  iapply Hk
  isplitl [Z8 Z9 Z10 Z11]
  · isplitl [Z8]; · iexact Z8
    isplitl [Z9]; · iexact Z9
    isplitl [Z10] <;> iassumption
  isplitl [HI]; · iexact HI
  isplitr [HO]
  · iapply (oPt_split (c := c) (mid := oLo c .opp 4) (oLo_le c .opp (by omega)) (oLo_le c .opp (by omega)) (O m)).2
    isplitl [H0]; · iexact H0
    iapply (oPt_split (c := c) (mid := oLo c .opp 8) (oLo_le c .opp (by omega)) (oLo_le c .opp (by omega)) (O m)).2
    isplitl [H4]; · iexact H4
    iapply (oPt_split (c := c) (mid := oLo c .opp 12) (oLo_le c .opp (by omega)) (oLo_le c .opp (by omega)) (O m)).2
    isplitl [H8]; · iexact H8
    iexact H12
  iexact HO

/-! ## Phase 4, and the whole body -/

/-- One resource for each of the twelve sends or landings. -/
def Twelve (Ψ : Fin 12 → sProp 𝕄) : sProp 𝕄 := bigSepL [0, 1, 2, 3, 4, 5, 6, 7, 8, 9, 10, 11] Ψ

/-- One resource for each of the twelve transfers, listed. -/
theorem bigSep_twelve (Ψ : Fin 12 → sProp 𝕄) : bigSep Finset.univ Ψ = Twelve Ψ :=
  bigSep_univ_eq_bigSepL [0, 1, 2, 3, 4, 5, 6, 7, 8, 9, 10, 11] (by decide) (by decide) Ψ
theorem twelve_eq (Ψ : Fin 12 → sProp 𝕄) :
    Twelve Ψ = iprop(Ψ 0 ∗ Ψ 1 ∗ Ψ 2 ∗ Ψ 3 ∗ Ψ 4 ∗ Ψ 5 ∗ Ψ 6 ∗ Ψ 7 ∗ Ψ 8 ∗ Ψ 9 ∗ Ψ 10 ∗ Ψ 11) := rfl
theorem twelve_sep (Ψ Ξ : Fin 12 → sProp 𝕄) : Twelve (fun j => iprop(Ψ j ∗ Ξ j)) = iprop(Twelve Ψ ∗ Twelve Ξ) := by
  rw [← bigSep_twelve, ← bigSep_twelve, ← bigSep_twelve]; exact bigSep_sep Finset.univ Ψ Ξ

theorem sepL_cons (j : Fin 12) (l : List (Fin 12)) (Ψ : Fin 12 → sProp 𝕄) : bigSepL (j :: l) Ψ = iprop(Ψ j ∗ bigSepL l Ψ) := bigSepL_cons j l Ψ

/-- The wait for the end of send `j`. -/
def sentAt (j : Fin 12) (k : Pg F) : Pg F :=
  if h : j.val < 8 then sentOwn j (jt j) (jq j) k else sentPass (jp j) (jq j) k

/-- One send's end awaited, and several. -/
theorem sentAt_step (j : Fin 12) : Hoare c iprop(Recs m K ∗ (SCred c j ∗ SPos c j) ∗ Ow c []) iprop(sendPay m c j ∗ Zero c (some (false, j)) ∗ Ow c []) (sentAt j) := by
  unfold sentAt
  split
  · exact sent_step m c K j (src := rQtr (jt j) (jq j)) (dst := gQtr (jq j)) rfl
  · have hj : j = Fin.natAdd 8 (jq j) := Fin.ext (by show j.val = 8 + j.val % 4; omega)
    have := sent_step m c K (Fin.natAdd 8 (jq j)) (src := rQtr 2 (jq j)) (dst := rQtr (jp j) (jq j)) (hsrc := wx_rq 2 _) (hdst := wx_rq _ _) rfl
    rw [← hj] at this
    rename_i h
    unfold sentPass
    rw [← hj]
    exact this

theorem sents_step : ∀ l : List (Fin 12),
    Hoare c iprop(Recs m K ∗ bigSepL l (fun j => iprop(SCred c j ∗ SPos c j)) ∗ Ow c [])
      iprop(bigSepL l (fun j => iprop(sendPay m c j ∗ Zero c (some (false, j)))) ∗ Ow c []) (fun k => l.foldr sentAt k)
  | [] => by
    refine Hoare.skip ?_
    iintro ⟨-, He, HO⟩
    isplitl [He]; · iexact He
    iexact HO
  | j :: l => by
    intro k Φ
    rw [sepL_cons, sepL_cons]
    iintro ⟨#HR, ⟨Hj, Hl⟩, HO⟩ Hk
    iapply (sentAt_step m c K j _ Φ) $$ [Hj HO]
    · isplitr; · iexact HR
      isplitl [Hj] <;> iassumption
    iintro ⟨Hp, Hz, HO⟩
    iapply (sents_step l k Φ) $$ [Hl HO]
    · isplitr; · iexact HR
      isplitl [Hl] <;> iassumption
    iintro ⟨Hl, HO⟩
    iapply Hk
    isplitr [HO]
    · isplitl [Hp Hz]
      · isplitl [Hp] <;> iassumption
      iexact Hl
    iexact HO

/-- All sends' ends awaited. -/
theorem phase4_step : Hoare c iprop(Recs m K ∗ Twelve (fun j => iprop(SCred c j ∗ SPos c j)) ∗ Ow c [])
    iprop(Twelve (fun j => iprop(sendPay m c j ∗ Zero c (some (false, j)))) ∗ Ow c []) phase4 :=
  sents_step m c K [0, 1, 2, 3, 4, 5, 6, 7, 8, 9, 10, 11]

/-- The four quarters of a share of the own rows, one after another. -/
theorem gPt_quarters (q : PosShare TreeShare) (f : I2 16384 → F .bf16) :
    iprop(gPt c 0 4096 q f ∗ gPt c 4096 8192 q f ∗ gPt c 8192 12288 q f ∗ gPt c 12288 16384 q f) ⊢ (gPt c 0 16384 q f : sProp 𝕄) := by
  iintro ⟨H0, H1, H2, H3⟩
  iapply (gPt_split (c := c) (mid := 4096) (by omega) (by omega) q f).2
  isplitl [H0]; · iexact H0
  iapply (gPt_split (c := c) (mid := 8192) (by omega) (by omega) q f).2
  isplitl [H1]; · iexact H1
  iapply (gPt_split (c := c) (mid := 12288) (by omega) (by omega) q f).2
  isplitl [H2] <;> iassumption
/-- What a first hop's end returns, to the right and to the left. -/
theorem sendPay_right {j : Fin 12} {lo : ℕ} (h : j.val < 4) (hq : 4096 * (jq j).val = lo) : sendPay m c j = gPt c lo (lo + 4096) qR (G m c) := by
  unfold sendPay; rw [if_pos h, hq]
theorem sendPay_left {j : Fin 12} {lo : ℕ} (h : ¬ j.val < 4) (h' : j.val < 8) (hq : 4096 * (jq j).val = lo) : sendPay m c j = gPt c lo (lo + 4096) qL (G m c) := by
  unfold sendPay; rw [if_neg h, if_pos h', hq]
/-- The ends of the own rows' sends bring back both shares that were lent. -/
theorem sendPays : Twelve (sendPay m c) ⊢ iprop(gPt c 0 16384 qR (G m c) ∗ gPt c 0 16384 qL (G m c)) := by
  rw [twelve_eq]
  iintro ⟨H0, H1, H2, H3, H4, H5, H6, H7, -⟩
  isplitl [H0 H1 H2 H3]
  · iapply (gPt_quarters c qR (G m c))
    isplitl [H0]; · iapply (Entails.of_eq (sendPay_right m c (j := 0) (lo := 0) (by decide) rfl)) $$ H0
    isplitl [H1]; · iapply (Entails.of_eq (sendPay_right m c (j := 1) (lo := 4096) (by decide) rfl)) $$ H1
    isplitl [H2]; · iapply (Entails.of_eq (sendPay_right m c (j := 2) (lo := 8192) (by decide) rfl)) $$ H2
    iapply (Entails.of_eq (sendPay_right m c (j := 3) (lo := 12288) (by decide) rfl)) $$ H3
  · iapply (gPt_quarters c qL (G m c))
    isplitl [H4]; · iapply (Entails.of_eq (sendPay_left m c (j := 4) (lo := 0) (by decide) (by decide) rfl)) $$ H4
    isplitl [H5]; · iapply (Entails.of_eq (sendPay_left m c (j := 5) (lo := 4096) (by decide) (by decide) rfl)) $$ H5
    isplitl [H6]; · iapply (Entails.of_eq (sendPay_left m c (j := 6) (lo := 8192) (by decide) (by decide) rfl)) $$ H6
    iapply (Entails.of_eq (sendPay_left m c (j := 7) (lo := 12288) (by decide) (by decide) rfl)) $$ H7

/-- The four places a device writes are its own, its neighbours' and the opposite device's. -/
theorem devs (c : Dev nD) : And (Finset.univ = [wDev .own c, wDev .left c, wDev .right c, wDev .opp c].toFinset) [wDev .own c, wDev .left c, wDev .right c, wDev .opp c].Nodup := by
  revert c; decide
/-- The result's rows are the blocks of the device itself, of its two neighbours, and of the device opposite. -/
theorem oPt_regions (f : I2 65536 → F .f32) :
    (oPt c 0 65536 f : sProp 𝕄) ⊣⊢ iprop(oPt c (oLo c .own 0) (oLo c .own 16) f ∗ oPt c (oLo c .left 0) (oLo c .left 16) f
      ∗ oPt c (oLo c .right 0) (oLo c .right 16) f ∗ oPt c (oLo c .opp 0) (oLo c .opp 16) f) := by
  have e (d : Dev nD) {a b : ℕ} (ha : 16384 * d.val = a) (hb : a + 16384 = b) :
      oPt c (16384 * d.val + 1024 * 0) (16384 * d.val + 1024 * 16) f = oPt c a b f := by rw [ha, ← hb, show 1024 * 0 = 0 from rfl, show 1024 * 16 = 16384 from rfl, Nat.add_zero]
  have h1 : (oPt c 0 65536 f : sProp 𝕄) ⊣⊢ bigSepL [(0 : Dev nD), 1, 2, 3] (fun e => oPt c (16384 * e.val + 1024 * 0) (16384 * e.val + 1024 * 16) f) := by
    simp only [bigSepL_cons_cons, bigSepL_singleton]
    rw [e 0 (a := 0) (b := 16384) rfl rfl, e 1 (a := 16384) (b := 32768) rfl rfl, e 2 (a := 32768) (b := 49152) rfl rfl, e 3 (a := 49152) (b := 65536) rfl rfl]
    have s1 := oPt_split (c := c) (lo := 0) (mid := 16384) (hi := 65536) (by omega) (by omega) f
    have s2 := oPt_split (c := c) (lo := 16384) (mid := 32768) (hi := 65536) (by omega) (by omega) f
    have s3 := oPt_split (c := c) (lo := 32768) (mid := 49152) (hi := 65536) (by omega) (by omega) f
    exact ⟨s1.1.trans (BIClass.sep_mono (BI.Entails.refl _) (s2.1.trans (BIClass.sep_mono (BI.Entails.refl _) s3.1))),
      (BIClass.sep_mono (BI.Entails.refl _) ((BIClass.sep_mono (BI.Entails.refl _) s3.2).trans s2.2)).trans s1.2⟩
  rw [← bigSep_univ_eq_bigSepL [(0 : Dev nD), 1, 2, 3] (by decide) (by decide),
    bigSep_univ_eq_bigSepL [wDev .own c, wDev .left c, wDev .right c, wDev .opp c] (devs c).1 (devs c).2] at h1
  exact h1

variable (F) in
/-- What a device's body takes. -/
def bodyPre : sProp 𝕄 :=
  iprop((BarRes c ∗ (∃ W, owes (c : Thread nD τ) (O₀ c) W) ∗ levAts L lv) ∗ (XIdle c ∗ xPt m c 0 16384 ∗ gTodo c 0) ∗ (Idle c ∗ oTodo c 0 65536)
    ∗ Twelve (Toks c) ∗ Twelve (SPos c) ∗ Twelve (RIn c))
/-- What it leaves: every cell closed, the staging at rest, the argument unchanged and the whole result. -/
def bodyPost : sProp 𝕄 :=
  iprop((Zero c none ∗ Twelve (fun j => Zero c (some (false, j))) ∗ Twelve (fun j => Zero c (some (true, j))))
    ∗ (XIdle c ∗ xPt m c 0 16384 ∗ gPt c 0 16384 fullShare (G m c)) ∗ (Idle c ∗ oPt c 0 65536 (O m)) ∗ Ow c [])

/-- The result in the four devices' parts. -/
theorem oTodo_regions : (oTodo c 0 65536 : sProp 𝕄) ⊢ iprop(oTodo c (oLo c .own 0) (oLo c .own 16) ∗ oTodo c (oLo c .left 0) (oLo c .left 16)
      ∗ oTodo c (oLo c .right 0) (oLo c .right 16) ∗ oTodo c (oLo c .opp 0) (oLo c .opp 16)) := by
  unfold oTodo
  iintro ⟨%f, H⟩
  ihave H := (oPt_regions c f).1 $$ H
  icases H with ⟨H0, H1, H2, H3⟩
  isplitl [H0]; · iexists f; iexact H0
  isplitl [H1]; · iexists f; iexact H1
  isplitl [H2] <;> iexists f <;> iassumption

/-- The body's four phases, one after another. -/
theorem phases_step : Hoare c iprop(Recs m K ∗ bodyPre F m c) (bodyPost m c) (fun k => phase1 c (phase2 c (phase3 c (phase4 k)))) := by
  intro k Φ
  unfold bodyPre bodyPost
  rw [twelve_eq (Toks c), twelve_eq (RIn c)]
  iintro ⟨#HR, HB, HX, ⟨HI, Ho⟩, ⟨T0, T1, T2, T3, T4, T5, T6, T7, T8, T9, T10, T11⟩, HP, ⟨R0, R1, R2, R3, R4, R5, R6, R7, R8, R9, R10, R11⟩⟩ Hk
  ihave Ho := (oTodo_regions c) $$ Ho
  icases Ho with ⟨Ho, Hl, Hr, Hp⟩
  iapply (phase1_step m c K _ Φ) $$ [HB HX HI Ho T0 T1 T2 T3 T4 T5 T6 T7]
  · isplitr; · iexact HR
    unfold P1pre
    isplitl [HB]; · iexact HB
    isplitl [HX]; · iexact HX
    isplitr [HI Ho]
    · isplitl [T0]; · iexact T0
      isplitl [T1]; · iexact T1
      isplitl [T2]; · iexact T2
      isplitl [T3]; · iexact T3
      isplitl [T4]; · iexact T4
      isplitl [T5]; · iexact T5
      isplitl [T6] <;> iassumption
    isplitl [HI] <;> iassumption
  unfold P1post
  iintro ⟨HZ, ⟨HX, Hx, Hg⟩, ⟨S0, S1, S2, S3, S4, S5, S6, S7⟩, ⟨D8, D9, D10, D11⟩, HI, Ho, HO⟩
  iapply (phase2_step m c K _ Φ) $$ [HI HO Hl Hr T8 T9 T10 T11 D8 D9 D10 D11 R0 R1 R2 R3 R4 R5 R6 R7]
  · isplitr; · iexact HR
    unfold P2pre
    isplitl [R0 R1 R2 R3 R4 R5 R6 R7]
    · isplitl [R0]; · iexact R0
      isplitl [R1]; · iexact R1
      isplitl [R2]; · iexact R2
      isplitl [R3]; · iexact R3
      isplitl [R4]; · iexact R4
      isplitl [R5]; · iexact R5
      isplitl [R6] <;> iassumption
    isplitl [T8 T9 T10 T11 D8 D9 D10 D11]
    · isplitl [T8 D8]
      · isplitl [T8] <;> iassumption
      isplitl [T9 D9]
      · isplitl [T9] <;> iassumption
      isplitl [T10 D10]
      · isplitl [T10] <;> iassumption
      isplitl [T11] <;> iassumption
    isplitl [HI]; · iexact HI
    isplitl [Hl Hr]
    · isplitl [Hl] <;> iassumption
    iexact HO
  unfold P2post
  iintro ⟨⟨Z0, Z1, Z2, Z3, Z4, Z5, Z6, Z7⟩, ⟨S8, S9, S10, S11⟩, HI, ⟨Hl, Hr⟩, HO⟩
  iapply (phase3_step m c K _ Φ) $$ [HI HO Hp R8 R9 R10 R11]
  · isplitr; · iexact HR
    unfold P3pre
    isplitl [R8 R9 R10 R11]
    · isplitl [R8]; · iexact R8
      isplitl [R9]; · iexact R9
      isplitl [R10] <;> iassumption
    isplitl [HI]; · iexact HI
    isplitl [Hp] <;> iassumption
  unfold P3post
  iintro ⟨⟨Z8, Z9, Z10, Z11⟩, HI, Hp, HO⟩
  iapply (phase4_step m c K k Φ) $$ [HO HP S0 S1 S2 S3 S4 S5 S6 S7 S8 S9 S10 S11]
  · isplitr; · iexact HR
    isplitr [HO]
    · rw [twelve_sep (SCred c) (SPos c)]
      isplitr [HP]
      · rw [twelve_eq (SCred c)]
        isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10] <;> iassumption
      iexact HP
    iexact HO
  rw [twelve_sep (sendPay m c) (fun j => Zero c (some (false, j)))]
  iintro ⟨⟨HS, HZs⟩, HO⟩
  ihave HS := (sendPays m c) $$ HS
  iapply Hk
  isplitl [HZ HZs Z0 Z1 Z2 Z3 Z4 Z5 Z6 Z7 Z8 Z9 Z10 Z11]
  · isplitl [HZ]; · iexact HZ
    isplitl [HZs]; · iexact HZs
    rw [twelve_eq]
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10] <;> iassumption
  isplitl [HX Hx Hg HS]
  · isplitl [HX]; · iexact HX
    isplitl [Hx]; · iexact Hx
    iapply (gPt_shares c 0 16384 (G m c)).2
    isplitl [Hg]; · iexact Hg
    iexact HS
  isplitr [HO]
  · isplitl [HI]; · iexact HI
    iapply (oPt_regions c (O m)).2
    isplitl [Ho]; · iexact Ho
    isplitl [Hl]; · iexact Hl
    isplitl [Hr] <;> iassumption
  iexact HO

/-- The body. -/
theorem body_step (Φ : PUnit → sProp 𝕄) : iprop(Recs m K ∗ bodyPre F m c) ⊢ iprop((bodyPost m c -∗ Φ ⟨⟩) -∗ Wp c (body F) Φ) := by
  have hd : Wp c (body F) Φ = Wp c (phase1 c (phase2 c (phase3 c (phase4 (.ret ⟨⟩))))) Φ := by
    unfold body Wp
    rw [Idealize.ShloMosaic.wp_deviceId]
  rw [hd]
  iintro H Hk
  iapply (phases_step m c K (.ret ⟨⟩) Φ) $$ H
  iintro Hp
  unfold Wp
  rw [Idealize.SL.Sem.wp_ret]
  imodintro
  iapply Hk $$ Hp

end Cert.KernelIdeal.Ring

end
-- ==== Proof.Deal.lean ====
/- What a launch hands out, sorted: the scratch buffers as their slots, the semaphores as the ring's cells and the local
   copies' counters, the duty tokens to the devices that pay them, and the credits owed at launch. -/
module

public import proofs.«01_k».proof.Proof.Body
public import Idealize.ShloMosaic.Lib.Pipeline.BigSepL

@[expose] public section

noncomputable section

namespace Cert.KernelIdeal.Ring

open Idealize.ShloMosaic Idealize.ShloMosaic.TcCoe Idealize.SL.Sem Cert.KernelIdeal Cert.KernelIdeal.Gen
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Buffers by their slots -/

/-- Elements at some contents are two disjoint parts, each at some contents. -/
theorem some_union {ℓ : Loc nD τ sig} {I J S : Finset (Idx ℓ)} (hS : S = I ∪ J) (hd : Disjoint I J) :
    iprop(∃ f : Buf (Elt F) ℓ, (ℓ ↦[S]{fullShare} f : sProp 𝕄)) ⊣⊢ iprop((∃ f : Buf (Elt F) ℓ, (ℓ ↦[I]{fullShare} f)) ∗ ∃ f : Buf (Elt F) ℓ, (ℓ ↦[J]{fullShare} f)) := by
  subst hS
  constructor
  · iintro ⟨%f, H⟩
    ihave H := (pointsTo_union hd).1 $$ H
    icases H with ⟨H1, H2⟩
    isplitl [H1] <;> iexists f <;> iassumption
  · iintro ⟨⟨%f, H1⟩, %g, H2⟩
    iexists (J.piecewise g f)
    iapply (pointsTo_join hd)
    isplitl [H1] <;> iassumption

/-- A stack of two, and of three, is its members. -/
theorem stack2 {N : ℕ} : And ((Finset.univ : Finset (I3 2 N)) = rows3 0 0 N ∪ rows3 1 0 N) (Disjoint (rows3 0 0 N : Finset (I3 2 N)) (rows3 1 0 N)) := by
  constructor
  · ext i
    have h0 : (i 0).val < 2 := (i 0).isLt
    have h1 : (i 1).val < N := (i 1).isLt
    simp only [Finset.mem_univ, Finset.mem_union, mem_rows3, true_iff]; omega
  · rw [Finset.disjoint_left]; intro i; simp only [mem_rows3]; omega
theorem stack3 {N : ℕ} : And ((Finset.univ : Finset (I3 3 N)) = rows3 0 0 N ∪ (rows3 1 0 N ∪ rows3 2 0 N))
    (And (Disjoint (rows3 0 0 N : Finset (I3 3 N)) (rows3 1 0 N ∪ rows3 2 0 N)) (Disjoint (rows3 1 0 N : Finset (I3 3 N)) (rows3 2 0 N))) := by
  refine ⟨?_, ?_, ?_⟩
  · ext i
    have h0 : (i 0).val < 3 := (i 0).isLt
    have h1 : (i 1).val < N := (i 1).isLt
    simp only [Finset.mem_univ, Finset.mem_union, mem_rows3, true_iff]; omega
  · rw [Finset.disjoint_left]; intro i; simp only [Finset.mem_union, mem_rows3]; omega
  · rw [Finset.disjoint_left]; intro i; simp only [mem_rows3]; omega

/-- The scratch buffers, each whole at some contents. -/
def Scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- Each scratch buffer as the slots the program uses, and back. -/
theorem g_whole : iprop(∃ f : Buf (Elt F) ((c : Thread nD τ).loc cc0_scratch0), (((c : Thread nD τ).loc cc0_scratch0) ↦{fullShare} f : sProp 𝕄)) ⊢ gTodo c 0 := by
  unfold gTodo gPt
  rw [rows2_univ]
  exact BI.Entails.refl _
theorem g_back : (gPt c 0 16384 fullShare (G m c) : sProp 𝕄)
    ⊢ iprop(∃ f : Buf (Elt F) ((c : Thread nD τ).loc cc0_scratch0), (((c : Thread nD τ).loc cc0_scratch0) ↦{fullShare} f)) := by
  unfold gPt
  rw [rows2_univ]
  iintro H
  iexists _; iexact H
theorem xs_slots : iprop(∃ f : Buf (Elt F) ((c : Thread nD τ).loc cc0_scratch1), (((c : Thread nD τ).loc cc0_scratch1) ↦{fullShare} f : sProp 𝕄))
    ⊣⊢ iprop((∃ f, xsPt c 0 f) ∗ (∃ f, xsPt c 1 f) ∗ ∃ f, xsPt c 2 f) := by
  have h1 := some_union (F := F) (ℓ := (c : Thread nD τ).loc cc0_scratch1) (stack3 (N := 1024)).1 (stack3 (N := 1024)).2.1
  have h2 := some_union (F := F) (ℓ := (c : Thread nD τ).loc cc0_scratch1) rfl (stack3 (N := 1024)).2.2
  exact ⟨h1.1.trans (BIClass.sep_mono (BI.Entails.refl _) h2.1), (BIClass.sep_mono (BI.Entails.refl _) h2.2).trans h1.2⟩
theorem cs_slots : iprop(∃ f : Buf (Elt F) ((c : Thread nD τ).loc cc0_scratch2), (((c : Thread nD τ).loc cc0_scratch2) ↦{fullShare} f : sProp 𝕄))
    ⊣⊢ iprop((∃ f, csPt c 0 f) ∗ ∃ f, csPt c 1 f) :=
  some_union (F := F) (ℓ := (c : Thread nD τ).loc cc0_scratch2) (stack2 (N := 1024)).1 (stack2 (N := 1024)).2
theorem os_slots : iprop(∃ f : Buf (Elt F) ((c : Thread nD τ).loc cc0_scratch3), (((c : Thread nD τ).loc cc0_scratch3) ↦{fullShare} f : sProp 𝕄))
    ⊣⊢ iprop((∃ f, osPt c 0 f) ∗ ∃ f, osPt c 1 f) :=
  some_union (F := F) (ℓ := (c : Thread nD τ).loc cc0_scratch3) (stack2 (N := 1024)).1 (stack2 (N := 1024)).2
/-- The landing buffer in the four pieces its neighbours write. -/
theorem r_pieces (f : Buf (Elt F) ((c : Thread nD τ).loc main_v1_1)) :
    (((c : Thread nD τ).loc main_v1_1) ↦{fullShare} f : sProp 𝕄) ⊢ iprop((rAny c 0 0 16384 ∗ rAny c 2 0 8192) ∗ (rAny c 1 0 16384 ∗ rAny c 2 8192 16384)) := by
  have h1 := some_union (F := F) (ℓ := (c : Thread nD τ).loc main_v1_1) (stack3 (N := 16384)).1 (stack3 (N := 16384)).2.1
  have h2 := some_union (F := F) (ℓ := (c : Thread nD τ).loc main_v1_1) rfl (stack3 (N := 16384)).2.2
  iintro H
  ihave H := h1.1 $$ [H]
  · iexists f; iexact H
  icases H with ⟨H0, H⟩
  ihave H := h2.1 $$ H
  icases H with ⟨H1, H2⟩
  ihave H2 := (rAny_split (F := F) (d := c) (t := 2) (lo := 0) (mid := 8192) (hi := 16384) (by omega) (by omega)) $$ [H2]
  · unfold rAny rPt; iexact H2
  icases H2 with ⟨H2, H3⟩
  unfold rAny rPt
  isplitl [H0 H2]
  · isplitl [H0]; · iexact H0
    iexact H2
  isplitl [H1]; · iexact H1
  iexact H3
/-- The argument and the result whole. -/
theorem x_whole : (((c : Thread nD τ).loc main_arg0) ↦{fullShare} m ((c : Thread nD τ).loc main_arg0) : sProp 𝕄) = xPt m c 0 16384 := by
  unfold xPt; rw [rows2_univ]; rfl
theorem o_whole (f : I2 65536 → F .f32) : (oPt c 0 65536 f : sProp 𝕄) = (((c : Thread nD τ).loc main_v1_0) ↦{fullShare} f) := by
  unfold oPt; rw [rows2_univ]

/-! ## Semaphores -/

/-- The kernel's own semaphores, all of them. -/
abbrev osem : Fin 34 → SemLoc sig := fun i => .dma (⟨i.val, i.isLt⟩ : DmaSem sig)
abbrev zero (i : Fin 34) : sProp 𝕄 := semVal ((c : Thread nD τ), osem i) 0
/-- The local copies' counters and the three of no use, at zero. -/
def Plain : sProp 𝕄 := bigSepL [0, 1, 2, 3, 4, 5, 6, 7, 8, 9] (zero (F := F) c)

/-- The kernel's own semaphores: the local copies', the sends', the landings'. -/
theorem ownSems0_eq : (Pipeline.ownSems0 (Ix := Unit) (Name := ℕ) (U := UU) (Lvl := ℕ) (Val := Elt F) (τ := τ) osem c : sProp 𝕄)
    = iprop(Plain c ∗ Twelve (fun j => Zero c (some (false, j))) ∗ Twelve (fun j => Zero c (some (true, j)))) := by
  rw [Pipeline.ownSems0_eq_of_list c osem ([0, 1, 2, 3, 4, 5, 6, 7, 8, 9] ++ ([10, 11, 12, 13, 14, 15, 16, 17, 18, 19, 20, 21] ++ [22, 23, 24, 25, 26, 27, 28, 29, 30, 31, 32, 33])) (by decide) (by decide),
    bigSepL_append, bigSepL_append]
  rfl
/-- The semaphore that outlives the kernel is the barrier's. -/
theorem unscopedSems0_eq : (unscopedSems0 c : sProp 𝕄) = Zero c none := by
  unfold unscopedSems0; rw [bigSep_eq_bigSepL_of_eq [SemLoc.reg barSem] (by decide) (by decide)]; rfl

/-- One resource for every ring cell of a device: its barrier's, its sends', its landings'. -/
theorem bigSep_Kc (Ψ : Kc → sProp 𝕄) : bigSep Finset.univ Ψ = iprop(Ψ none ∗ Twelve (fun j => Ψ (some (false, j))) ∗ Twelve (fun j => Ψ (some (true, j)))) := by
  rw [bigSep_univ_eq_bigSepL (none :: ([0, 1, 2, 3, 4, 5, 6, 7, 8, 9, 10, 11].map (fun j : Fin 12 => some (false, j)) ++ [0, 1, 2, 3, 4, 5, 6, 7, 8, 9, 10, 11].map (fun j : Fin 12 => some (true, j)))) (by decide) (by decide),
    bigSepL_cons', bigSepL_append]
  rfl

/-! ## Tokens -/

/-- The ring cells are distinct. -/
theorem kcell_injective : Function.Injective (fun ck : Dev nD × Kc => kcell ck.1 ck.2) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨_, kcell_injective⟩

/-- A duty token: one of a barrier's two, or a send's or a landing's one. -/
abbrev Kt : Type := Bool ⊕ (Bool × Fin 12)
def tokOf (x : Dev nD × Kt) : GSem nD τ sig × ℕ × Bool :=
  match x.2 with
  | .inl d => (kcell x.1 none, 0, d)
  | .inr p => (kcell x.1 (some p), 0, false)
/-- The tokens are distinct. -/
theorem tokOf_injective : Function.Injective tokOf := by
  rintro ⟨c, k⟩ ⟨c', k'⟩ h
  have hc : ∀ x, (tokOf x).1.1.1 = x.1 := fun ⟨_, k⟩ => by rcases k with _ | _ <;> rfl
  have h1 : c = c' := (hc (c, k)).symm.trans ((congrArg (fun t => t.1.1.1) h).trans (hc (c', k')))
  subst h1
  rcases k with d | p <;> rcases k' with d' | p'
  · have : d = d' := congrArg (fun t : GSem nD τ sig × ℕ × Bool => t.2.2) h
    rw [this]
  · exact absurd (show (none : Kc) = some p' from csem_injective (congrArg (fun t : GSem nD τ sig × ℕ × Bool => t.1.2) h)) (by rintro ⟨⟩)
  · exact absurd (show some p = (none : Kc) from csem_injective (congrArg (fun t : GSem nD τ sig × ℕ × Bool => t.1.2) h)) (by rintro ⟨⟩)
  · have : some p = some p' := csem_injective (congrArg (fun t : GSem nD τ sig × ℕ × Bool => t.1.2) h)
    rw [Option.some.inj this]
def ringToks : Finset (GSem nD τ sig × ℕ × Bool) := Finset.univ.map ⟨tokOf, tokOf_injective⟩

/-- A token of a device's barrier, send `j` or landing `j`. -/
def tBar (d : Bool) (c : Dev nD) : sProp 𝕄 := dutyTok ER (barCell c) 0 d
def tCell (x : Bool) (j : Fin 12) (c : Dev nD) : sProp 𝕄 := dutyTok ER (kcell c (some (x, j))) 0 false
/-- The tokens of a device's own cells, -/
def toks (c : Dev nD) : sProp 𝕄 :=
  iprop((tBar false c ∗ tBar true c) ∗ (bigSep Finset.univ fun j => tCell false j c) ∗ bigSep Finset.univ fun j => tCell true j c)
/-- and of the duties it pays. -/
def payToks (c : Dev nD) : sProp 𝕄 :=
  iprop((tBar false (nxt c) ∗ tBar true (prv c)) ∗ (bigSep Finset.univ fun j => tCell false j c) ∗ bigSep Finset.univ fun j => tCell true j (tgt j c))

/-- The tokens of all cells, sorted by who pays them. -/
theorem toks_around : (bigSep Finset.univ fun c : Dev nD => (toks c : sProp 𝕄)) = bigSep Finset.univ fun c : Dev nD => payToks c := by
  have hb (d : Bool) (e : Dev nD ≃ Dev nD) : (bigSep Finset.univ fun c => (tBar d c : sProp 𝕄)) = bigSep Finset.univ fun c => tBar d (e c) :=
    bigSep_univ_equiv e (fun c : Dev nD => (tBar d c : sProp 𝕄))
  have hr : (bigSep Finset.univ fun c : Dev nD => bigSep Finset.univ fun j => (tCell true j c : sProp 𝕄))
      = bigSep Finset.univ fun c : Dev nD => bigSep Finset.univ fun j => tCell true j (tgt j c) := by
    rw [Pipeline.bigSep_univ_comm, Pipeline.bigSep_univ_comm (fun (c : Dev nD) (j : Fin 12) => (tCell true j (tgt j c) : sProp 𝕄))]
    exact bigSep_congr fun j _ => bigSep_univ_equiv (ring j) (fun c : Dev nD => (tCell true j c : sProp 𝕄))
  unfold toks payToks
  rw [bigSep_sep', bigSep_sep', bigSep_sep', bigSep_sep', bigSep_sep', bigSep_sep', hr, hb false (ring 0), hb true (ring 0).symm]
  rfl
/-- The tokens a device pays with, by transfer. -/
theorem payToks_eq : (payToks c : sProp 𝕄) = iprop((tBar false (nxt c) ∗ tBar true (prv c)) ∗ Twelve (Toks c)) := by
  unfold payToks
  rw [← bigSep_sep', ← bigSep_twelve]
  rfl

/-! ## Credits -/

/-- What the devices owe for sends is each device's credit for its landings. -/
theorem owe_creds : ∀ l : List (Fin 12), (Pipeline.launchCred (fun d => owe d l) c : sProp 𝕄) ⊢ bigSepL l (fun j => cred (tallyAt (recvCell c j) () N))
  | [] => by
    show (Pipeline.launchCred (fun _ => (0 : CellTallies nD τ sig Unit)) c : sProp 𝕄) ⊢ _
    rw [Pipeline.launchCred_zero]; exact BI.Entails.refl _
  | j :: l => by
    show (Pipeline.launchCred (fun d => owe d l + tallyAt (recvCell (tgt j d) j) () N) c : sProp 𝕄) ⊢ _
    rw [Pipeline.launchCred_add, sepL_cons]
    have h := Pipeline.launchCred_tallyAt (τ := τ) (Val := Elt F) (Name := ℕ) (U := UU) (Lvl := ℕ) (csem (some (true, j))) (tgt j) (payer j) (tgt_payer j) (payer_tgt j) () N c
    iintro ⟨Hl, Hj⟩
    isplitl [Hj]
    · iapply h; iexact Hj
    iapply (owe_creds l); iexact Hl

/-- The credit a device starts with: its barrier's two units and its landings. -/
theorem creds : (Pipeline.launchCred O₀ c : sProp 𝕄) ⊢ iprop(cred (tallyAt (barCell c) () 2) ∗ Twelve (fun j => cred (tallyAt (recvCell c j) () N))) := by
  show (Pipeline.launchCred (fun d => (owe d order + tallyAt (barCell (nxt d)) () 1) + tallyAt (barCell (prv d)) () 1) c : sProp 𝕄) ⊢ _
  rw [Pipeline.launchCred_add, Pipeline.launchCred_add]
  have h1 := Pipeline.launchCred_tallyAt (τ := τ) (Val := Elt F) (Name := ℕ) (U := UU) (Lvl := ℕ) (csem none) nxt prv nxt_prv prv_nxt () 1 c
  have h2 := Pipeline.launchCred_tallyAt (τ := τ) (Val := Elt F) (Name := ℕ) (U := UU) (Lvl := ℕ) (csem none) prv nxt prv_nxt nxt_prv () 1 c
  rw [← bigSep_twelve, bigSep_univ_eq_bigSepL order (by decide) (by decide)]
  iintro ⟨⟨Hl, Hn⟩, Hp⟩
  isplitl [Hn Hp]
  · rw [show (2 : ℕ) = 1 + 1 from rfl, ← tallyAt_add]
    iapply (cred_add _ _).2
    isplitl [Hn]
    · iapply h1; iexact Hn
    · iapply h2; iexact Hp
  iapply (owe_creds c order); iexact Hl

end Cert.KernelIdeal.Ring

end
-- ==== Proof.Launch.lean ====
/- The launch: the run of the whole program from any memory with every counter at zero. Every device's result ends at the
   gathered rows, its argument is unchanged, and every counter is back at zero. -/
module

public import proofs.«01_k».proof.Proof.Deal
public import Idealize.ShloMosaic.Lib.Pipeline.CollectiveSegs

@[expose] public section

noncomputable section

namespace Cert.KernelIdeal.Ring

open Idealize.ShloMosaic Idealize.ShloMosaic.TcCoe Idealize.SL.Sem Cert.KernelIdeal Cert.KernelIdeal.Gen
open Idealize.SL Idealize.SL.RA Idealize.SL.BI
open scoped Idealize.SL.BI
open Idealize.SL.BI.BIBase Idealize.SL.BI.Laws Idealize.SL.ProofMode
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg) (c : Dev nD) (K : Dev nD × Kc → ℕ)

/-! ## The cells made -/

/-- What the launch element deals a device: its cells' state, its positions, its cells' tokens. -/
def Deal (c : Dev nD) : sProp 𝕄 :=
  iprop((bigSep Finset.univ fun k : Kc => roundState ER (Rd m) (kcell c k) 0)
    ∗ (bigSep Finset.univ fun k : Kc => iprop(atPos ER (kcell c k) 0 ∅ 0 ∗ reached ER (kcell c k) 0)) ∗ toks c)
/-- What stays with a device: its positions, and the tokens of the duties it pays. -/
def Own (c : Dev nD) : sProp 𝕄 := iprop((bigSep Finset.univ fun k : Kc => atPos ER (kcell c k) 0 ∅ 0) ∗ payToks c ∗ Plain c)
/-- What a device starts from: every cell's record, and its own. -/
def Dealt (c : Dev nD) : sProp 𝕄 := iprop(∃ K, Recs m K ∗ Own c)

/-- The launch element funds every device's deal. -/
theorem fund_ring : BI.own (ER (initOf ringCells ringToks)) ⊢ (|==> bigSep Finset.univ (Deal m) : sProp 𝕄) := by
  have hX (Ψ : GSem nD τ sig → sProp 𝕄) : bigSep ringCells Ψ = bigSep Finset.univ fun c : Dev nD => bigSep Finset.univ fun k : Kc => Ψ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    have hB (Ψ : Bool → sProp 𝕄) : bigSep Finset.univ Ψ = iprop(Ψ false ∗ Ψ true) := bigSep_univ_eq_bigSepL [false, true] (by decide) (by decide) Ψ
    rw [Idealize.SL.BI.bigSep_univ_sum, hB, bigSep_univ_prod, hB]
    rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Deal; simp only [bigSep_sep']
  isplitl [Hst]; · iexact Hst
  isplitl [Hat Hr]
  · isplitl [Hat] <;> iassumption
  iexact Htok

/-- A device's counters at zero: its cells', and the local copies'. -/
theorem sems0_eq : (iprop(Pipeline.ownSems0 (Ix := Unit) (Name := ℕ) (U := UU) (Lvl := ℕ) (Val := Elt F) (τ := τ) osem c ∗ unscopedSems0 c) : sProp 𝕄)
    ⊢ iprop((bigSep Finset.univ fun k : Kc => semVal (kcell c k) 0) ∗ Plain c) := by
  rw [ownSems0_eq, unscopedSems0_eq, bigSep_Kc]
  unfold Zero
  iintro ⟨⟨HL, HS, HV⟩, HB⟩
  isplitr [HL]
  · isplitl [HB]; · iexact HB
    isplitl [HS] <;> iassumption
  iexact HL

/-- A device's cells made from its counters at zero. -/
theorem core_alloc : (iprop(Pipeline.ownSems0 (Ix := Unit) (Name := ℕ) (U := UU) (Lvl := ℕ) (Val := Elt F) (τ := τ) osem c ∗ unscopedSems0 c ∗ Deal m c) : sProp 𝕄)
    ⊢ |={Set.univ}=> iprop((bigSep Finset.univ fun k => iprop(∃ κ : ℕ, cellInv ER (Rd m) κ (kcell c k)))
        ∗ (bigSep Finset.univ fun k => iprop(atPos ER (kcell c k) 0 ∅ 0 ∗ reached ER (kcell c k) 0)) ∗ toks c ∗ Plain c) := by
  unfold Deal
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : Kc => semVal (kcell c k) 0) ∗ bigSep Finset.univ fun k : Kc => roundState ER (Rd m) (kcell c k) 0)
      ⊢ (|={Set.univ}=> bigSep Finset.univ fun k => iprop(∃ κ : ℕ, cellInv ER (Rd m) κ (kcell c k)) : sProp 𝕄) from by
        rw [← bigSep_sep']
        exact (bigSep_mono fun k _ => (Rounds.body_intro ER (Rd m) (kcell c k)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The cells' names chosen, the records shared with everyone, the tokens sent to who pays. -/
theorem regroup :
    (bigSep Finset.univ fun c : Dev nD => iprop((bigSep Finset.univ fun k => iprop(∃ κ : ℕ, cellInv ER (Rd m) κ (kcell c k)))
        ∗ (bigSep Finset.univ fun k => iprop(atPos ER (kcell c k) 0 ∅ 0 ∗ reached ER (kcell c k) 0)) ∗ toks c ∗ Plain c) : sProp 𝕄)
      ⊢ bigSep Finset.univ (Dealt m) := by
  rw [bigSep_sep', bigSep_sep', bigSep_sep', ← bigSep_univ_prod (fun ck : Dev nD × Kc => iprop(∃ κ : ℕ, cellInv ER (Rd m) κ (kcell ck.1 ck.2))),
    bigSep_congr (s := Finset.univ) (fun (c : Dev nD) _ => bigSep_sep' Finset.univ (fun k : Kc => (atPos ER (kcell c k) 0 ∅ 0 : sProp 𝕄)) (fun k => reached ER (kcell c k) 0)),
    bigSep_sep', ← bigSep_univ_prod (fun ck : Dev nD × Kc => (reached ER (kcell ck.1 ck.2) 0 : sProp 𝕄)), toks_around]
  have hO : (bigSep Finset.univ fun c : Dev nD => (Own c : sProp 𝕄))
      = iprop((bigSep Finset.univ fun c : Dev nD => bigSep Finset.univ fun k : Kc => atPos ER (kcell c k) 0 ∅ 0)
        ∗ (bigSep Finset.univ fun c : Dev nD => payToks c) ∗ bigSep Finset.univ fun c : Dev nD => Plain c) := by
    unfold Own; rw [bigSep_sep', bigSep_sep']
  iintro ⟨HI, ⟨Hat, #HR⟩, Htok, HL⟩
  ihave HK := (BI.bigSep_exists_pi Finset.univ (fun (ck : Dev nD × Kc) (κ : ℕ) => (cellInv ER (Rd m) κ (kcell ck.1 ck.2) : sProp 𝕄))) $$ HI
  icases HK with ⟨%K, #HI⟩
  have hone : iprop(Recs m K ∗ bigSep Finset.univ fun c : Dev nD => (Own c : sProp 𝕄)) ⊢ bigSep Finset.univ (Dealt m) :=
    (sep_mono_left (BI.bigSep_of_persistent Finset.univ (Recs m K))).trans (by
      rw [← bigSep_sep']
      refine bigSep_mono fun c _ => ?_
      show (iprop(Recs m K ∗ Own c) : sProp 𝕄) ⊢ Dealt m c
      unfold Dealt
      iintro H
      iexists K; iexact H)
  iapply hone
  isplitr
  · unfold Recs; isplitl; · iexact HI
    iexact HR
  rw [hO]
  isplitl [Hat]; · iexact Hat
  isplitl [Htok] <;> iassumption

/-- All devices' cells made at once. -/
theorem glob : (bigSep Finset.univ fun c => iprop(Pipeline.ownSems0 (Ix := Unit) (Name := ℕ) (U := UU) (Lvl := ℕ) (Val := Elt F) (τ := τ) osem c ∗ unscopedSems0 c ∗ Deal m c) : sProp 𝕄)
    ⊢ |={Set.univ}=> bigSep Finset.univ (Dealt m) :=
  ((bigSep_mono fun c _ => core_alloc m c).trans (bigSep_fupd _ _)).trans (BI.fupd_mono (regroup m))

/-! ## Before the body, and after -/

/-- What a device enters with, its scratch buffers apart. -/
def start : sProp 𝕄 :=
  iprop((∃ K, Recs m K ∗ Own c) ∗ (cred (tallyAt (barCell c) () 2) ∗ Twelve (fun j => cred (tallyAt (recvCell c j) () N))) ∗ levAts L lv
    ∗ xPt m c 0 16384 ∗ oTodo c 0 65536 ∗ barPay (prv c) true ∗ barPay (nxt c) false)
/-- What it leaves with, its scratch buffers and the kernel's own semaphores apart. -/
def done : sProp 𝕄 := iprop(unscopedSems0 c ∗ xPt m c 0 16384 ∗ oPt c 0 65536 (O m))
def Φ₀ : sProp 𝕄 := iprop(start m c ∗ Scr c)
def Φ₁ : sProp 𝕄 := iprop(done m c ∗ Pipeline.ownSems0 osem c ∗ Scr c)

/-- The local copies' counters, by the copy each counts, and the three of no use. -/
theorem plain_eq : (Plain c : sProp 𝕄) = iprop(semVal ((c : Thread nD τ), .dma (xinSem 0)) 0 ∗ semVal ((c : Thread nD τ), .dma (xinSem 1)) 0
    ∗ semVal ((c : Thread nD τ), .dma (xinSem 2)) 0 ∗ zero c 3 ∗ zero c 4 ∗ zero c 5 ∗ semVal ((c : Thread nD τ), .dma (cinSem 0)) 0
    ∗ semVal ((c : Thread nD τ), .dma (cinSem 1)) 0 ∗ semVal ((c : Thread nD τ), .dma (outSem 0)) 0 ∗ semVal ((c : Thread nD τ), .dma (outSem 1)) 0) := rfl
/-- The local copies' counters with the scratch buffers' slots are the slots at rest. -/
theorem idle_intro : (iprop(Plain c ∗ Scr c) : sProp 𝕄) ⊢ iprop((XIdle c ∗ gTodo c 0 ∗ Idle c) ∗ zero c 3 ∗ zero c 4 ∗ zero c 5) := by
  rw [plain_eq]
  unfold Scr XIdle Idle XFree CFree OFree
  iintro ⟨⟨Z0, Z1, Z2, Z3, Z4, Z5, Z6, Z7, Z8, Z9⟩, Hg, Hx, Hc, Ho⟩
  ihave Hg := (g_whole c) $$ Hg
  ihave Hx := (xs_slots c).1 $$ Hx
  ihave Hc := (cs_slots c).1 $$ Hc
  ihave Ho := (os_slots c).1 $$ Ho
  icases Hx with ⟨X0, X1, X2⟩
  icases Hc with ⟨C0, C1⟩
  icases Ho with ⟨O0, O1⟩
  isplitr [Z3 Z4 Z5]
  · isplitl [X0 X1 X2 Z0 Z1 Z2]
    · isplitl [X0 Z0]; · isplitl [X0] <;> iassumption
      isplitl [X1 Z1]; · isplitl [X1] <;> iassumption
      isplitl [X2] <;> iassumption
    isplitl [Hg]; · iexact Hg
    isplitl [C0 C1 Z6 Z7]
    · isplitl [C0 Z6]; · isplitl [C0] <;> iassumption
      isplitl [C1] <;> iassumption
    isplitl [O0 Z8]; · isplitl [O0] <;> iassumption
    isplitl [O1] <;> iassumption
  isplitl [Z3]; · iexact Z3
  isplitl [Z4] <;> iassumption
/-- The slots at rest give back the counters and the scratch buffers. -/
theorem idle_elim : (iprop((XIdle c ∗ gPt c 0 16384 fullShare (G m c) ∗ Idle c) ∗ zero c 3 ∗ zero c 4 ∗ zero c 5) : sProp 𝕄) ⊢ iprop(Plain c ∗ Scr c) := by
  rw [plain_eq]
  unfold Scr XIdle Idle XFree CFree OFree
  iintro ⟨⟨⟨⟨X0, Z0⟩, ⟨X1, Z1⟩, X2, Z2⟩, Hg, ⟨⟨C0, Z6⟩, C1, Z7⟩, ⟨O0, Z8⟩, O1, Z9⟩, Z3, Z4, Z5⟩
  isplitl [Z0 Z1 Z2 Z3 Z4 Z5 Z6 Z7 Z8 Z9]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8] <;> iassumption
  isplitl [Hg]; · iapply (g_back m c); iexact Hg
  isplitl [X0 X1 X2]
  · iapply (xs_slots c).2
    isplitl [X0]; · iexact X0
    isplitl [X1] <;> iassumption
  isplitl [C0 C1]
  · iapply (cs_slots c).2
    isplitl [C0] <;> iassumption
  iapply (os_slots c).2
  isplitl [O0] <;> iassumption

/-- From what a device enters with to what the body takes. -/
theorem enter : (iprop(Φ₀ m c ∗ ∃ W, owes (c : Thread nD τ) (O₀ c) W) : sProp 𝕄)
    ⊢ iprop(∃ K, (Recs m K ∗ bodyPre F m c) ∗ zero c 3 ∗ zero c 4 ∗ zero c 5) := by
  have hR : (Twelve (fun j => RIn c j) : sProp 𝕄) = iprop(Twelve (fun j => cred (tallyAt (recvCell c j) () N)) ∗ Twelve (fun j => atPos ER (recvCell c j) 0 ∅ 0)) :=
    twelve_sep _ _
  unfold Φ₀ start Own bodyPre BarRes
  rw [payToks_eq, bigSep_Kc, hR]
  unfold tBar
  iintro ⟨⟨⟨⟨%K, #HR, ⟨HaB, HaS, HaV⟩, ⟨⟨HtN, HtP⟩, Htok⟩, HL⟩, ⟨HcB, HcV⟩, Hlev, Hx, Ho, HbP, HbN⟩, Hscr⟩, HO⟩
  ihave Hid := (idle_intro (F := F) c) $$ [HL Hscr]
  · isplitl [HL] <;> iassumption
  icases Hid with ⟨⟨HX, Hg, HI⟩, Hz⟩
  iexists K
  isplitr [Hz]
  · isplitr; · iexact HR
    isplitl [HtN HtP HbP HbN HcB HaB HO Hlev]
    · isplitl [HtN HtP HbP HbN HcB HaB]
      · isplitl [HtP HbP]; · isplitl [HtP]; (iexact HtP); iexact HbP
        isplitl [HtN HbN]; · isplitl [HtN]; (iexact HtN); iexact HbN
        isplitl [HcB] <;> iassumption
      isplitl [HO] <;> iassumption
    isplitl [HX Hx Hg]
    · isplitl [HX]; · iexact HX
      isplitl [Hx] <;> iassumption
    isplitl [HI Ho]; · isplitl [HI] <;> iassumption
    isplitl [Htok]; · iexact Htok
    isplitl [HaS]; · iexact HaS
    isplitl [HcV] <;> iassumption
  iexact Hz

/-- From what the body leaves to what a device leaves with. -/
theorem leave : (iprop(bodyPost m c ∗ zero c 3 ∗ zero c 4 ∗ zero c 5) : sProp 𝕄) ⊢ iprop(Φ₁ m c ∗ ∃ W, owes (c : Thread nD τ) 0 W) := by
  unfold bodyPost Φ₁ done Ow
  rw [ownSems0_eq, unscopedSems0_eq]
  iintro ⟨⟨⟨HZB, HZS, HZV⟩, ⟨HX, Hx, Hg⟩, ⟨HI, Ho⟩, HO, -⟩, Hz⟩
  ihave H := (idle_elim m c) $$ [HX Hg HI Hz]
  · isplitr [Hz]
    · isplitl [HX]; · iexact HX
      isplitl [Hg] <;> iassumption
    iexact Hz
  icases H with ⟨HL, Hscr⟩
  isplitr [HO]
  · isplitl [HZB Hx Ho]
    · isplitl [HZB]; · iexact HZB
      isplitl [Hx] <;> iassumption
    isplitr [Hscr]
    · isplitl [HL]; · iexact HL
      isplitl [HZS] <;> iassumption
    iexact Hscr
  iexact HO

/-! ## The pipeline's data -/

/-- No window is staged: the one point's invariant is all there is. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

set_option maxRecDepth 100000 in
theorem body_obligation : BodyObligation (dats m 0 c) (defs₀ (F := F)) 𝒱₀ () Set.univ := fun t => by
  rw [fin_N0 t]
  have hW (Ψ : Fin cfg0.W → sProp 𝕄) : bigSep Finset.univ Ψ = iprop(emp) := bigSep_univ_eq_bigSepL [] (by decide) (by decide) Ψ
  rw [hW, hW]
  show iprop(Φ₀ m c ∗ (dats m 0 c).owesAt () t0_0.castSucc ∗ emp) ⊢ Wp c (Gen.bodyAt0 t0_0) (fun _ => iprop(Φ₁ m c ∗ (dats m 0 c).owesAt () t0_0.succ ∗ emp))
  rw [bodyAt_eq]
  iintro ⟨HΦ, Ho, -⟩
  unfold Dat.owesAt Pipeline.owesWithin
  icases Ho with ⟨%W, %hW, HO⟩
  ihave H := (enter m c) $$ [HΦ HO]
  · isplitl [HΦ]; · iexact HΦ
    iexists W; iexact HO
  icases H with ⟨%K, H, Hz⟩
  iapply (body_step m c K _) $$ H
  iintro Hp
  ihave H := (leave m c) $$ [Hp Hz]
  · isplitl [Hp] <;> iassumption
  icases H with ⟨HΦ, %W', HO⟩
  isplitl [HΦ]; · iexact HΦ
  isplitl [HO]
  · iexists W'
    isplitr; · ipureintro; exact fun _ _ => Or.inl trivial
    iexact HO
  iempintro

/-- The kernel's own semaphores are no window's. -/
theorem ownSemFacts : Pipeline.OwnSemFacts cfg0.spec osem := by decide

def u₀ : UU := (initOf (Pipeline.cells cfgs cellOf_inj) (Pipeline.launchToks cfgs cellOf_inj), (initOf ringCells ringToks, 1))

/-- The launch element: the pipeline's part and the ring's. -/
theorem u₀_split : (ownU u₀ : sProp 𝕄)
    ⊢ iprop(BI.own (EP (initOf (Pipeline.cells cfgs cellOf_inj) (Pipeline.launchToks cfgs cellOf_inj))) ∗ BI.own (ER (initOf ringCells ringToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf ringCells ringToks, (1 : Counters)))))

/-- What the launch gives a device, sorted. -/
theorem start_intro :
    (iprop(Pipeline.unscopedRestP Pipeline.Prefetch.none cfg0.spec c (fun b => m ((c : Thread nD τ).loc b)) ∗ levAts L lv
        ∗ Pipeline.launchCred O₀ c ∗ prngReg c (ρ c) ∗ Dealt m c) : sProp 𝕄)
      ⊢ |={Set.univ}=> iprop(start m c ∗ emp) := by
  rw [Pipeline.unscopedRestP_none, unscopedRest0_eq, x_whole]
  iintro ⟨⟨Hx, Ho, Hr⟩, Hlev, Hcr, -, HG⟩
  ihave Hc := (creds (F := F) c) $$ Hcr
  ihave Hr := (r_pieces c _) $$ Hr
  icases Hr with ⟨HrP, HrN⟩
  imodintro
  unfold start Dealt
  isplitl
  · isplitl [HG]; · iexact HG
    isplitl [Hc]; · iexact Hc
    isplitl [Hlev]; · iexact Hlev
    isplitl [Hx]; · iexact Hx
    isplitl [Ho]
    · unfold oTodo
      iexists (m ((c : Thread nD τ).loc main_v1_0))
      rw [o_whole]; iexact Ho
    isplitl [HrP]
    · unfold barPay; rw [if_pos rfl, nxt_prv]; iexact HrP
    unfold barPay; rw [if_neg Bool.false_ne_true, prv_nxt]; iexact HrN
  iempintro

/-- Before the body: what the device starts with, and the scratch buffers. -/
theorem phi0_intro :
    (iprop(start m c ∗ Pipeline.prefHeld Pipeline.Prefetch.none c (fun _ => fullShare.right) (fun k => k.elim0) ∗ Pipeline.scopedRest cfg0.spec c) : sProp 𝕄)
      ⊢ (dats m 0 c).Φ 0 := by
  rw [show (dats m 0 c).Φ 0 = Φ₀ m c from rfl, scopedRest0_eq]
  unfold Φ₀
  iintro ⟨Hs, -, Hr⟩
  isplitl [Hs]; · iexact Hs
  unfold Scr; iexact Hr

/-- After the body: everything given back. -/
theorem phi1_exit :
    (dats m 0 c).Φ (Fin.last cfg0.N) ⊢ (iprop(done m c ∗ Pipeline.ownSems0 osem c ∗ Pipeline.scopedRest cfg0.spec c) : sProp 𝕄) := by
  rw [show (dats m 0 c).Φ (Fin.last cfg0.N) = Φ₁ m c from rfl, scopedRest0_eq]
  exact BI.Entails.refl _

/-- No window is staged, so the pipeline itself waits for nothing. -/
theorem waits : (levAts L lv : sProp 𝕄) ⊢ Pipeline.cellsWaits cfgs (dats m) () 0 c :=
  Pipeline.cellsWaits_intro cfgs (dats m) () 0 c fun w _ _ => w.elim0

/-! ## The run -/

/-- The final memory read: the argument, the result, the counters that outlive the kernel. -/
theorem final (s' : Phys nD τ sig (Elt F)) :
    (iprop(done m c ∗ emp ∗ SI s') : sProp 𝕄)
      ⊢ |={Set.univ}=> iprop(⌜s'.mem.mem ((c : Thread nD τ).loc main_arg0) = m ((c : Thread nD τ).loc main_arg0)
          ∧ s'.mem.mem ((c : Thread nD τ).loc main_v1_0) = O m
          ∧ ∀ sm : SemLoc sig, sm.isScoped .tc = false → s'.mem.sem ((c : Thread nD τ), sm) = 0⌝ ∗ SI s') := by
  unfold done
  rw [← x_whole, o_whole]
  iintro ⟨⟨Hu, Hx, Ho⟩, -, HSI⟩
  ihave H := (persistent_entails_right (SI_pointsTo_agree (st := s') (ℓ := (c : Thread nD τ).loc main_arg0) (I := Finset.univ) (q := fullShare) (f := m ((c : Thread nD τ).loc main_arg0)))) $$ [HSI Hx]
  · isplitl [HSI] <;> iassumption
  icases H with ⟨%hx, HSI, -⟩
  ihave H := (persistent_entails_right (SI_pointsTo_agree (st := s') (ℓ := (c : Thread nD τ).loc main_v1_0) (I := Finset.univ) (q := fullShare) (f := (O m : Buf (Elt F) ((c : Thread nD τ).loc main_v1_0))))) $$ [HSI Ho]
  · isplitl [HSI] <;> iassumption
  icases H with ⟨%ho, HSI, -⟩
  imod (unscopedSems0_read (X := unscopedSems0 c) (c := c) fupd_intro s') $$ [Hu HSI] with ⟨%hz, HSI⟩
  · isplitl [Hu] <;> iassumption
  imodintro
  isplitr
  · ipureintro
    exact ⟨funext fun i => hx i (Finset.mem_univ i), funext fun i => ho i (Finset.mem_univ i), hz⟩
  iexact HSI

set_option maxRecDepth 100000 in
/-- For any float values, from any memory with zero counters: every weakly fair execution ends, every device's result at
    the gathered rows, its argument unchanged, every counter at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_v1_0) = O m)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := Deal m) (G' := Dealt m) (u₀ := u₀)
    (hu₀ := by
      iintro Hu
      ihave H := (u₀_split (F := F)) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := done m) (Z := fun _ => iprop(emp))
    (hX := start_intro m ρ) (hin := phi0_intro m) (hout := phi1_exit m)
    (QY := fun c s => s.mem ((c : Thread nD τ).loc main_arg0) = m ((c : Thread nD τ).loc main_arg0) ∧ s.mem ((c : Thread nD τ).loc main_v1_0) = O m
      ∧ ∀ sm : SemLoc sig, sm.isScoped .tc = false → s.sem ((c.tc : Thread nD τ), sm) = 0)
    (hY := final m)
    (hQ := fun _ h hs => ⟨fun c => ⟨(h c).2.2.1, (h c).2.2.2.1⟩, sem_eq_zero hs fun c => (h c).2.2.2.2⟩)

end Cert.KernelIdeal.Ring

end
-- ==== Proof.Claims.lean ====
/- The claims: each program's run, and the value every device ends with. -/
module

public import proofs.«01_k».proof.Defs
public import proofs.«01_k».proof.Proof.Launch
public import proofs.«01_k».proof.Proof.Gen.Kernel
public import proofs.«01_k».proof.Proof.Gen.ReferenceIdeal
public import Idealize.ShloMosaic.Lib.StableHlo.Run
public import Idealize.ShloMosaic.Lib.Layout

@[expose] public section

noncomputable section

namespace Cert.Proof

open Idealize.ShloMosaic Idealize.ShloMosaic.TcCoe Idealize.SL.Sem

/-- The kernel's program on hardware floats: it ends, its argument unchanged, its counters at zero. -/
theorem frame_kernel : Cert.quiescent_Kernel := fun m ρ _ =>
  (θ_run Cert.KernelIdeal.defs _ _).mono (fun _ h => ⟨fun c => (h.1 c).1, h.2⟩) (Cert.KernelIdeal.Ring.run_main (F := Bits) m ρ)

/-- The same text on extended reals. -/
theorem frame_ideal : Cert.quiescent_KernelIdeal := fun m ρ _ =>
  (θ_run Cert.KernelIdeal.defs _ _).mono (fun _ h => ⟨fun c => (h.1 c).1, h.2⟩) (Cert.KernelIdeal.Ring.run_main (F := Ideal) m ρ)

section Reference
open Cert.ReferenceIdeal

/-- The reference has no scratch buffer and no semaphore. -/
theorem ref_scopedRefs : (Finset.univ.filter fun b : Ref sig .tc => b.isScoped) = ∅ := by decide
theorem ref_scopedSems : (Finset.univ.filter fun sm : SemLoc sig => sm.isScoped .tc) = ∅ := by decide

/-- The reference has no operation: its argument, which is its result, is unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ c : Dev nD, r.2.mem ((c : Thread nD τ).loc main_arg0) = m ((c : Thread nD τ).loc main_arg0) :=
  (θ_run (defs (F := Ideal)) _ _).mono (fun _ h c => h c main_arg0)
    (StableHlo.run_seq ref_scopedRefs ref_scopedSems defs main (fun _ => []) (fun _ => rfl) (fun _ => trivial) m ρ)

/-- The reference ends, its argument unchanged. -/
theorem frame_reference : Cert.quiescent_ReferenceIdeal := fun m ρ _ =>
  (θ_run Cert.ReferenceIdeal.defs _ _).mono (fun r h => ⟨h, sem_eq_zero_of_no_sems (by decide) r.2⟩) (ref_run m ρ)
end Reference

open Cert.KernelIdeal in
/-- On extended reals the rows each device holds, gathered, are the whole array they were cut from. -/
theorem gathered (m : (ℓ : Loc nD τ sig) → Buf (Elt Ideal) ℓ) (x : (⟨2, ![65536, 1024]⟩ : Shape).Idx → Ideal .f32)
    (h : ∀ c : Dev nD, m ((c : Thread nD τ).loc main_arg0) = Layout.block ⟨2, ![16384, 1024]⟩ ⟨2, ![65536, 1024]⟩ 0 4 c x) : Ring.O m = x := by
  funext i
  have hi : (i 0).val < 65536 := (i 0).isLt
  rw [Ring.O_at m ⟨(i 0).val / 16384, by show _ < 4; omega⟩ i ⟨(i 0).val % 16384, Nat.mod_lt _ (by decide)⟩ (i 1) (Nat.div_add_mod _ _).symm rfl]
  show m ((Dev.tc (nD := nD) (τ := τ) ⟨(i 0).val / 16384, _⟩).loc main_arg0) _ = x i
  rw [h, Layout.block_apply]
  refine congrArg x (Ring.ext2 ?_ rfl)
  show (i 0).val / 16384 * 16384 + (i 0).val % 16384 = (i 0).val
  omega

/-- Every device's result is the reference's result. -/
theorem value : Cert.algebraic_KernelIdeal_ReferenceIdeal := fun m ρ m' ρ' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).2.trans (gathered m _ hm), (h.1 c).1⟩) (Cert.KernelIdeal.Ring.run_main (F := Ideal) m ρ),
    (θ_run Cert.ReferenceIdeal.defs _ _).mono (fun _ h => ⟨h 0, h 0⟩) (ref_run m' ρ')⟩

end Cert.Proof

end
-- ==== Proof.lean ====
/- The proof of the certificate's claim: the three programs' runs, and the value every device ends with. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim, with the facts the programs state. -/
theorem claim : Cert.Claim := ⟨Cert.Kernel.Gen.facts, Cert.KernelIdeal.Gen.facts, Cert.ReferenceIdeal.Gen.facts,
  frame_kernel, frame_ideal, frame_reference, trivial, value⟩

end Cert.Proof

end
